-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_values_finite [hPre_values_finite : Cert.Pre_values_finite.Facts] (m : (ℓ : Loc Cert.KernelIdeal.nD Cert.KernelIdeal.τ Cert.KernelIdeal.sig) → Buf (Elt Ideal) ℓ) : Prop :=
  ∀ c : Dev Cert.KernelIdeal.nD,
    (Cert.Pre_values_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_values_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_values_finite [hPre_values_finite : Cert.Pre_values_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_values_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_values_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_values_finite [hKernelIdeal : Cert.KernelIdeal.Facts] [hPre_values_finite : Cert.Pre_values_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_values_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_values_finite [hReferenceIdeal : Cert.ReferenceIdeal.Facts] [hPre_values_finite : Cert.Pre_values_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_values_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  True

def algebraic_KernelIdeal_ReferenceIdeal_pre_values_finite [hKernelIdeal : Cert.KernelIdeal.Facts] [hReferenceIdeal : Cert.ReferenceIdeal.Facts] [hPre_values_finite : Cert.Pre_values_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_values_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)) (v3 : (c : Dev Cert.KernelIdeal.nD) → Buf (Elt Ideal) ((c.tc : Thread Cert.KernelIdeal.nD Cert.KernelIdeal.τ).loc Cert.KernelIdeal.main_v25_3)) (v4 : (c : Dev Cert.KernelIdeal.nD) → Buf (Elt Ideal) ((c.tc : Thread Cert.KernelIdeal.nD Cert.KernelIdeal.τ).loc Cert.KernelIdeal.main_v25_4)) (v5 : (c : Dev Cert.KernelIdeal.nD) → Buf (Elt Ideal) ((c.tc : Thread Cert.KernelIdeal.nD Cert.KernelIdeal.τ).loc Cert.KernelIdeal.main_v25_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_v25_3) = v3 c
          ∧ r.2.mem ((c.tc : Thread Cert.KernelIdeal.nD Cert.KernelIdeal.τ).loc Cert.KernelIdeal.main_v25_4) = v4 c
          ∧ r.2.mem ((c.tc : Thread Cert.KernelIdeal.nD Cert.KernelIdeal.τ).loc Cert.KernelIdeal.main_v25_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_v149) = v2 c
          ∧ r.2.mem ((c.tc : Thread Cert.ReferenceIdeal.nD Cert.ReferenceIdeal.τ).loc Cert.ReferenceIdeal.main_v146) = v3 c
          ∧ r.2.mem ((c.tc : Thread Cert.ReferenceIdeal.nD Cert.ReferenceIdeal.τ).loc Cert.ReferenceIdeal.main_v145) = v4 c
          ∧ r.2.mem ((c.tc : Thread Cert.ReferenceIdeal.nD Cert.ReferenceIdeal.τ).loc Cert.ReferenceIdeal.main_v134) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v5) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_v5) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v25)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v25) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v71) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_values_finite : Cert.Pre_values_finite.Facts),
    quiescent_Kernel (hKernel := hKernel)
    ∧ quiescent_KernelIdeal (hKernelIdeal := hKernelIdeal)
    ∧ quiescent_KernelIdeal_pre_values_finite (hKernelIdeal := hKernelIdeal) (hPre_values_finite := hPre_values_finite)
    ∧ quiescent_ReferenceIdeal (hReferenceIdeal := hReferenceIdeal)
    ∧ quiescent_ReferenceIdeal_pre_values_finite (hReferenceIdeal := hReferenceIdeal) (hPre_values_finite := hPre_values_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_values_finite (hKernelIdeal := hKernelIdeal) (hReferenceIdeal := hReferenceIdeal) (hPre_values_finite := hPre_values_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_values_finite.lean ====
abbrev S4096x1024 : Shape := ⟨2, ![4096, 1024]⟩
abbrev S4096x128 : Shape := ⟨2, ![4096, 128]⟩
abbrev S4096x7680 : Shape := ⟨2, ![4096, 7680]⟩
abbrev S1x128 : Shape := ⟨2, ![1, 128]⟩
abbrev S_ : Shape := ⟨0, ![]⟩

class Facts : Prop where
  slices_S4096x7680_S4096x128_0_7424 : S4096x7680.Slices ![0, 7424] S4096x128
  bcast_S_S4096x128 : S_.BroadcastsInDim S4096x128 (![] : Fin 0 → Fin S4096x128.rank)
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S4096x128 .f32) (main_arg2 : FVec F S4096x7680 .f32) (main_arg3 : FVec F S1x128 .f32) (main_arg4 : FVec F S4096x1024 .f32) : IVec S4096x128 1 × IVec S4096x1024 1 :=
  let main_v0 : FVec F S4096x128 .f32 := (extractStridedSlice S4096x128 ![0, 7424] · slices_S4096x7680_S4096x128_0_7424) main_arg2
  let main_v1 : FVec F S4096x128 .f32 := Host.absf main_v0
  let main_cst : FVec F S_ .f32 := constant S_ .f32 0x7F800000#32
  let main_v2 : FVec F S4096x128 .f32 := broadcastInDim S4096x128 ![] bcast_S_S4096x128 main_cst
  let main_v3 : IVec S4096x128 1 := cmpf .olt main_v1 main_v2
  let main_v4 : FVec F S4096x1024 .f32 := Host.absf main_arg4
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  (main_v3, main_v6)
-- ==== Kernel.lean ====
abbrev S4096x1024 : Shape := ⟨2, ![4096, 1024]⟩
abbrev S4096x128 : Shape := ⟨2, ![4096, 128]⟩
abbrev S4096x7680 : Shape := ⟨2, ![4096, 7680]⟩
abbrev S1x128 : Shape := ⟨2, ![1, 128]⟩
abbrev S1024 : Shape := ⟨1, ![1024]⟩
abbrev S_ : Shape := ⟨0, ![]⟩
abbrev S256 : Shape := ⟨1, ![256]⟩
abbrev S1024x1 : Shape := ⟨2, ![1024, 1]⟩
abbrev S1x256 : Shape := ⟨2, ![1, 256]⟩
abbrev S1024x256 : Shape := ⟨2, ![1024, 256]⟩
abbrev S1x1024x256 : Shape := ⟨3, ![1, 1024, 256]⟩
abbrev S2x1024x256 : Shape := ⟨3, ![2, 1024, 256]⟩
abbrev S128x1024 : Shape := ⟨2, ![128, 1024]⟩
abbrev S128x128 : Shape := ⟨2, ![128, 128]⟩
abbrev S128x64 : Shape := ⟨2, ![128, 64]⟩
abbrev S256x64 : Shape := ⟨2, ![256, 64]⟩
abbrev S1024x64 : Shape := ⟨2, ![1024, 64]⟩
abbrev S1024x128 : Shape := ⟨2, ![1024, 128]⟩
abbrev S128 : Shape := ⟨1, ![128]⟩

abbrev nBuf : Space → Nat
  | .hbm => 71
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S4096x7680, .f32⟩
  | .hbm, ⟨3, _⟩ => ⟨S1x128, .f32⟩
  | .hbm, ⟨4, _⟩ => ⟨S4096x1024, .f32⟩
  | .hbm, ⟨5, _⟩ => ⟨S1024, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S_, .i1⟩
  | .hbm, ⟨22, _⟩ => ⟨S1024, .i1⟩
  | .hbm, ⟨23, _⟩ => ⟨S1024, .i1⟩
  | .hbm, ⟨24, _⟩ => ⟨S1024, .i1⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S256, .i32⟩
  | .hbm, ⟨29, _⟩ => ⟨S1024x1, .i32⟩
  | .hbm, ⟨30, _⟩ => ⟨S_, .i32⟩
  | .hbm, ⟨31, _⟩ => ⟨S1024x1, .i32⟩
  | .hbm, ⟨32, _⟩ => ⟨S1024x1, .i32⟩
  | .hbm, ⟨33, _⟩ => ⟨S1x256, .i32⟩
  | .hbm, ⟨34, _⟩ => ⟨S1024x256, .i32⟩
  | .hbm, ⟨35, _⟩ => ⟨S1024x256, .i32⟩
  | .hbm, ⟨36, _⟩ => ⟨S1024x256, .i32⟩
  | .hbm, ⟨37, _⟩ => ⟨S_, .i32⟩
  | .hbm, ⟨38, _⟩ => ⟨S1024x256, .i32⟩
  | .hbm, ⟨39, _⟩ => ⟨S1024x256, .i1⟩
  | .hbm, ⟨40, _⟩ => ⟨S_, .i32⟩
  | .hbm, ⟨41, _⟩ => ⟨S1024x256, .i32⟩
  | .hbm, ⟨42, _⟩ => ⟨S1024x256, .i1⟩
  | .hbm, ⟨43, _⟩ => ⟨S1024x256, .i1⟩
  | .hbm, ⟨44, _⟩ => ⟨S1x256, .i32⟩
  | .hbm, ⟨45, _⟩ => ⟨S_, .i32⟩
  | .hbm, ⟨46, _⟩ => ⟨S1x256, .i32⟩
  | .hbm, ⟨47, _⟩ => ⟨S1x256, .i1⟩
  | .hbm, ⟨48, _⟩ => ⟨S1024x256, .i1⟩
  | .hbm, ⟨49, _⟩ => ⟨S1024x256, .i1⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S1024x256, .f32⟩
  | .hbm, ⟨54, _⟩ => ⟨S1024x256, .f32⟩
  | .hbm, ⟨55, _⟩ => ⟨S1024x256, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S1024x256, .f32⟩
  | .hbm, ⟨60, _⟩ => ⟨S1024x256, .f32⟩
  | .hbm, ⟨61, _⟩ => ⟨S1024x256, .f32⟩
  | .hbm, ⟨62, _⟩ => ⟨S1x1024x256, .f32⟩
  | .hbm, ⟨63, _⟩ => ⟨S1x1024x256, .f32⟩
  | .hbm, ⟨64, _⟩ => ⟨S2x1024x256, .f32⟩
  | .hbm, ⟨65, _⟩ => ⟨S4096x1024, .f32⟩
  | .hbm, ⟨66, _⟩ => ⟨S4096x128, .f32⟩
  | .hbm, ⟨67, _⟩ => ⟨S4096x128, .f32⟩
  | .hbm, ⟨68, _⟩ => ⟨S4096x128, .f32⟩
  | .hbm, ⟨69, _⟩ => ⟨S4096x128, .f32⟩
  | .hbm, ⟨70, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x1024x256, .f32⟩
  | .local _ .vmem, ⟨12, _⟩ => ⟨S1x1024x256, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c_0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_1 : Ref sig .tc := ⟨.hbm, 37, rfl⟩
abbrev main_v10 : Ref sig .tc := ⟨.hbm, 38, rfl⟩
abbrev main_v11 : Ref sig .tc := ⟨.hbm, 39, rfl⟩
abbrev main_c_2 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c_3 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst : Ref sig .tc := ⟨.hbm, 50, rfl⟩
abbrev main_cst_4 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v20 : Ref sig .tc := ⟨.hbm, 55, rfl⟩
abbrev main_cst_5 : Ref sig .tc := ⟨.hbm, 56, rfl⟩
abbrev main_cst_6 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25_0 : Ref sig .tc := ⟨.hbm, 65, rfl⟩
abbrev main_v25_1 : Ref sig .tc := ⟨.hbm, 66, rfl⟩
abbrev main_v25_2 : Ref sig .tc := ⟨.hbm, 67, rfl⟩
abbrev main_v25_3 : Ref sig .tc := ⟨.hbm, 68, rfl⟩
abbrev main_v25_4 : Ref sig .tc := ⟨.hbm, 69, rfl⟩
abbrev main_v25_5 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c58_i32 : BitVec 32 := 58#32
  let c0_i32_0 : BitVec 32 := 0#32
  ![v1.toNat, c58_i32.toNat]

def cc0_transform_4 (i : grid0.Coords) : Fin 2 → Nat :=
  let arg0 : BitVec 32 := BitVec.ofNat 32 (i 0).val
  let c58_i32 : BitVec 32 := 58#32
  let c0_i32 : BitVec 32 := 0#32
  ![arg0.toNat, c58_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S4096x1024 : Shape := ⟨2, ![4096, 1024]⟩
abbrev S4096x128 : Shape := ⟨2, ![4096, 128]⟩
abbrev S4096x7680 : Shape := ⟨2, ![4096, 7680]⟩
abbrev S1x128 : Shape := ⟨2, ![1, 128]⟩
abbrev S128x128 : Shape := ⟨2, ![128, 128]⟩
abbrev S_ : Shape := ⟨0, ![]⟩
abbrev S3968x128 : Shape := ⟨2, ![3968, 128]⟩
abbrev S32x128x2x8x64 : Shape := ⟨5, ![32, 128, 2, 8, 64]⟩
abbrev S32x128x2x64 : Shape := ⟨4, ![32, 128, 2, 64]⟩
abbrev S32x256x2x64 : Shape := ⟨4, ![32, 256, 2, 64]⟩
abbrev S32x2x256x128x8 : Shape := ⟨5, ![32, 2, 256, 128, 8]⟩
abbrev S32x2x8x128x256 : Shape := ⟨5, ![32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S1x16 : Shape := ⟨2, ![1, 16]⟩
abbrev S16 : Shape := ⟨1, ![16]⟩
abbrev S1x2x8x1x1 : Shape := ⟨5, ![1, 2, 8, 1, 1]⟩
abbrev S32x2x8x128 : Shape := ⟨4, ![32, 2, 8, 128]⟩
abbrev S32x2x8x128x1 : Shape := ⟨5, ![32, 2, 8, 128, 1]⟩
abbrev S32x2x64x8x128 : Shape := ⟨5, ![32, 2, 64, 8, 128]⟩
abbrev S32x2x64x256 : Shape := ⟨4, ![32, 2, 64, 256]⟩
abbrev S2x8x1 : Shape := ⟨3, ![2, 8, 1]⟩
abbrev S32x2x128x8x64 : Shape := ⟨5, ![32, 2, 128, 8, 64]⟩
abbrev S32x2x256x64 : Shape := ⟨4, ![32, 2, 256, 64]⟩

abbrev nBuf : Space → Nat
  | .hbm => 191
  | .vmem => 0
  | .smem => 0
  | _ => 0

abbrev hbmTy0_0 (i : Nat) : BufTy := match i % 128 with
  | 0 => ⟨S4096x1024, .f32⟩
  | 1 => ⟨S4096x128, .f32⟩
  | 2 => ⟨S4096x7680, .f32⟩
  | 3 => ⟨S1x128, .f32⟩
  | 4 => ⟨S4096x1024, .f32⟩
  | 5 => ⟨S4096x128, .f32⟩
  | 6 => ⟨S128x128, .f32⟩
  | 7 => ⟨S_, .f32⟩
  | 8 => ⟨S128x128, .f32⟩
  | 9 => ⟨S3968x128, .f32⟩
  | 10 => ⟨S4096x128, .f32⟩
  | 11 => ⟨S128x128, .f32⟩
  | 12 => ⟨S_, .f32⟩
  | 13 => ⟨S128x128, .f32⟩
  | 14 => ⟨S3968x128, .f32⟩
  | 15 => ⟨S4096x128, .f32⟩
  | 16 => ⟨S32x128x2x8x64, .f32⟩
  | 17 => ⟨S32x128x2x64, .f32⟩
  | 18 => ⟨S32x128x2x64, .f32⟩
  | 19 => ⟨S32x256x2x64, .f32⟩
  | 20 => ⟨S32x128x2x64, .f32⟩
  | 21 => ⟨S32x128x2x64, .f32⟩
  | 22 => ⟨S32x256x2x64, .f32⟩
  | 23 => ⟨S32x2x256x128x8, .f32⟩
  | 24 => ⟨S32x2x8x128x256, .f32⟩
  | 25 => ⟨S_, .f32⟩
  | 26 => ⟨S32x2x8x128x256, .f32⟩
  | 27 => ⟨S32x2x8x128x256, .f32⟩
  | 28 => ⟨S128, .i32⟩
  | 29 => ⟨S128x1, .i32⟩
  | 30 => ⟨S256, .i32⟩
  | 31 => ⟨S1x256, .i32⟩
  | 32 => ⟨S_, .i32⟩
  | 33 => ⟨S128x1, .i32⟩
  | 34 => ⟨S128x1, .i32⟩
  | 35 => ⟨S128x256, .i32⟩
  | 36 => ⟨S128x256, .i32⟩
  | 37 => ⟨S128x256, .i32⟩
  | 38 => ⟨S32, .i32⟩
  | 39 => ⟨S32x1x1, .i32⟩
  | 40 => ⟨S_, .i32⟩
  | 41 => ⟨S128x256, .i32⟩
  | 42 => ⟨S128x256, .i1⟩
  | 43 => ⟨S_, .i32⟩
  | 44 => ⟨S128x256, .i32⟩
  | 45 => ⟨S128x256, .i1⟩
  | 46 => ⟨S128x256, .i1⟩
  | 47 => ⟨S_, .i32⟩
  | 48 => ⟨S32x1x1, .i32⟩
  | 49 => ⟨S32x1x1, .i32⟩
  | 50 => ⟨S1x1x256, .i32⟩
  | 51 => ⟨S32x1x256, .i32⟩
  | 52 => ⟨S32x1x256, .i32⟩
  | 53 => ⟨S32x1x256, .i32⟩
  | 54 => ⟨S_, .i32⟩
  | 55 => ⟨S32x1x256, .i32⟩
  | 56 => ⟨S32x1x256, .i1⟩
  | 57 => ⟨S1x128x256, .i1⟩
  | 58 => ⟨S32x128x256, .i1⟩
  | 59 => ⟨S32x128x256, .i1⟩
  | 60 => ⟨S32x128x256, .i1⟩
  | 61 => ⟨S32x1x1x128x256, .i1⟩
  | 62 => ⟨S_, .f32⟩
  | 63 => ⟨S_, .f32⟩
  | 64 => ⟨S32x2x8x128x256, .i1⟩
  | 65 => ⟨S32x2x8x128x256, .f32⟩
  | 66 => ⟨S32x2x8x128x256, .f32⟩
  | 67 => ⟨S_, .f32⟩
  | 68 => ⟨S32x2x8x128x256, .f32⟩
  | 69 => ⟨S1x16, .f32⟩
  | 70 => ⟨S16, .f32⟩
  | 71 => ⟨S1x2x8x1x1, .f32⟩
  | 72 => ⟨S_, .f32⟩
  | 73 => ⟨S32x2x8x128, .f32⟩
  | 74 => ⟨S32x2x8x128x1, .f32⟩
  | 75 => ⟨S32x2x8x128x256, .f32⟩
  | 76 => ⟨S32x2x8x128x256, .i1⟩
  | 77 => ⟨S32x2x8x128x256, .f32⟩
  | 78 => ⟨S_, .f32⟩
  | 79 => ⟨S32x2x8x128, .f32⟩
  | 80 => ⟨S32x2x8x128x1, .f32⟩
  | 81 => ⟨S32x2x8x128x1, .f32⟩
  | 82 => ⟨S32x2x8x128x1, .f32⟩
  | 83 => ⟨S32x2x8x128x1, .f32⟩
  | 84 => ⟨S32x2x8x128x1, .i1⟩
  | 85 => ⟨S32x2x8x128x1, .f32⟩
  | 86 => ⟨S32x2x8x128x1, .i1⟩
  | 87 => ⟨S_, .f32⟩
  | 88 => ⟨S32x2x8x128x1, .f32⟩
  | 89 => ⟨S_, .f32⟩
  | 90 => ⟨S32x2x8x128x1, .f32⟩
  | 91 => ⟨S_, .f32⟩
  | 92 => ⟨S32x2x8x128x1, .f32⟩
  | 93 => ⟨S32x2x8x128x1, .f32⟩
  | 94 => ⟨S32x2x8x128x1, .f32⟩
  | 95 => ⟨S32x2x8x128x1, .f32⟩
  | 96 => ⟨S32x2x8x128x1, .i1⟩
  | 97 => ⟨S32x2x8x128x1, .f32⟩
  | 98 => ⟨S32x2x8x128x1, .i1⟩
  | 99 => ⟨S_, .f32⟩
  | 100 => ⟨S32x2x8x128x1, .f32⟩
  | 101 => ⟨S_, .f32⟩
  | 102 => ⟨S32x2x8x128x1, .f32⟩
  | 103 => ⟨S_, .f32⟩
  | 104 => ⟨S32x2x8x128x1, .f32⟩
  | 105 => ⟨S32x2x8x128x1, .f32⟩
  | 106 => ⟨S32x2x8x128x1, .f32⟩
  | 107 => ⟨S32x2x8x128x256, .f32⟩
  | 108 => ⟨S32x2x8x128x256, .f32⟩
  | 109 => ⟨S32x2x8x128x256, .f32⟩
  | 110 => ⟨S_, .f32⟩
  | 111 => ⟨S32x2x8x128, .f32⟩
  | 112 => ⟨S32x2x8x128x1, .f32⟩
  | 113 => ⟨S32x2x8x128x1, .f32⟩
  | 114 => ⟨S32x2x8x128x1, .f32⟩
  | 115 => ⟨S32x2x8x128x1, .f32⟩
  | 116 => ⟨S32x2x8x128x1, .f32⟩
  | 117 => ⟨S32x2x8x128x256, .f32⟩
  | 118 => ⟨S32x2x8x128x256, .f32⟩
  | 119 => ⟨S32x2x8x128x1, .f32⟩
  | 120 => ⟨S_, .f32⟩
  | 121 => ⟨S32x2x8x128x1, .f32⟩
  | 122 => ⟨S32x2x8x128x1, .f32⟩
  | 123 => ⟨S32x2x64x8x128, .f32⟩
  | 124 => ⟨S32x128x2x8x64, .f32⟩
  | 125 => ⟨S4096x1024, .f32⟩
  | 126 => ⟨S32x128x2x8x64, .f32⟩
  | 127 => ⟨S32x2x64x8x128, .f32⟩
  | _ => ⟨S4096x1024, .f32⟩

abbrev hbmTy0_1 (i : Nat) : BufTy := match i % 128 with
  | 0 => ⟨S32x2x8x128x256, .f32⟩
  | 1 => ⟨S32x2x64x256, .f32⟩
  | 2 => ⟨S32x256x2x64, .f32⟩
  | 3 => ⟨S32x2x8x128x256, .f32⟩
  | 4 => ⟨S32x2x8x128x256, .f32⟩
  | 5 => ⟨S32x2x8x128x256, .f32⟩
  | 6 => ⟨S_, .f32⟩
  | 7 => ⟨S32x2x8x128, .f32⟩
  | 8 => ⟨S32x2x8x128x1, .f32⟩
  | 9 => ⟨S32x2x8x128x1, .f32⟩
  | 10 => ⟨S32x2x8x128x256, .f32⟩
  | 11 => ⟨S32x2x8x128x256, .f32⟩
  | 12 => ⟨S32x2x8x128x1, .f32⟩
  | 13 => ⟨S_, .f32⟩
  | 14 => ⟨S2x8x1, .f32⟩
  | 15 => ⟨S1x2x8x1x1, .f32⟩
  | 16 => ⟨S32x2x8x128x1, .f32⟩
  | 17 => ⟨S_, .f32⟩
  | 18 => ⟨S32x2x8x128, .f32⟩
  | 19 => ⟨S32x2x8x128x256, .f32⟩
  | 20 => ⟨S32x2x8x128x256, .f32⟩
  | 21 => ⟨S32x2x8x128x256, .f32⟩
  | 22 => ⟨S32x2x8x128x256, .f32⟩
  | 23 => ⟨S_, .f32⟩
  | 24 => ⟨S32x2x8x128, .f32⟩
  | 25 => ⟨S32x2x8x128x1, .f32⟩
  | 26 => ⟨S32x2x8x128x1, .f32⟩
  | 27 => ⟨S32x2x8x128x1, .f32⟩
  | 28 => ⟨S_, .f32⟩
  | 29 => ⟨S2x8x1, .f32⟩
  | 30 => ⟨S1x2x8x1x1, .f32⟩
  | 31 => ⟨S1x2x8x1x1, .f32⟩
  | 32 => ⟨S32x2x8x128x1, .f32⟩
  | 33 => ⟨S_, .f32⟩
  | 34 => ⟨S32x2x8x128, .f32⟩
  | 35 => ⟨S32x2x8x128, .f32⟩
  | 36 => ⟨S32x2x8x128x256, .f32⟩
  | 37 => ⟨S32x2x8x128x256, .f32⟩
  | 38 => ⟨S32x2x8x128x256, .f32⟩
  | 39 => ⟨S16, .f32⟩
  | 40 => ⟨S1x16, .f32⟩
  | 41 => ⟨S_, .f32⟩
  | 42 => ⟨S1x128, .f32⟩
  | 43 => ⟨S_, .f32⟩
  | 44 => ⟨S32x2x8x128x256, .f32⟩
  | 45 => ⟨S32x2x8x128x256, .f32⟩
  | 46 => ⟨S_, .f32⟩
  | 47 => ⟨S32x2x8x128x256, .f32⟩
  | 48 => ⟨S32x2x8x128x256, .f32⟩
  | 49 => ⟨S32x2x256x128x8, .f32⟩
  | 50 => ⟨S32x2x128x8x64, .f32⟩
  | 51 => ⟨S32x128x2x8x64, .f32⟩
  | 52 => ⟨S32x2x256x64, .f32⟩
  | 53 => ⟨S32x256x2x64, .f32⟩
  | 54 => ⟨S32x128x2x64, .f32⟩
  | 55 => ⟨S32x128x2x64, .f32⟩
  | 56 => ⟨S4096x128, .f32⟩
  | 57 => ⟨S4096x128, .f32⟩
  | 58 => ⟨S32x128x2x64, .f32⟩
  | 59 => ⟨S32x128x2x64, .f32⟩
  | 60 => ⟨S4096x128, .f32⟩
  | 61 => ⟨S4096x128, .f32⟩
  | 62 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_call0_v0 : Ref sig .tc := ⟨.hbm, 63, rfl⟩
abbrev main_v49_1 : Ref sig .tc := ⟨.hbm, 64, rfl⟩
abbrev main_call0_v2 : Ref sig .tc := ⟨.hbm, 65, rfl⟩
abbrev main_v49_0 : Ref sig .tc := ⟨.hbm, 66, rfl⟩
abbrev main_call0_cst : Ref sig .tc := ⟨.hbm, 67, rfl⟩
abbrev main_v49_2 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_cst_10 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_12 : Ref sig .tc := ⟨.hbm, 99, rfl⟩
abbrev main_v75 : Ref sig .tc := ⟨.hbm, 100, rfl⟩
abbrev main_cst_13 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_15 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_16 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_17 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_18 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_cst_19 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_20 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_21 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_22 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_23 : Ref sig .tc := ⟨.hbm, 169, rfl⟩
abbrev main_v134 : Ref sig .tc := ⟨.hbm, 170, rfl⟩
abbrev main_call1_cst : Ref sig .tc := ⟨.hbm, 171, rfl⟩
abbrev main_call1_v0 : Ref sig .tc := ⟨.hbm, 172, rfl⟩
abbrev main_v135 : Ref sig .tc := ⟨.hbm, 173, rfl⟩
abbrev main_cst_24 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩

abbrev nD : Nat := 1
abbrev τ : Topo := Topo.v7x

variable {F : FTy → Type} [FloatOps F]
-- ==== Kernel2.lean ====
abbrev S4096x1024 : Shape := ⟨2, ![4096, 1024]⟩
abbrev S1024x7680 : Shape := ⟨2, ![1024, 7680]⟩
abbrev S4096x7680 : Shape := ⟨2, ![4096, 7680]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x7680, .bf16⟩
  | .hbm, ⟨2, _⟩ => ⟨S4096x7680, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c4_i32 : BitVec 32 := 4#32
  let v1 : BitVec 32 := Scalar.maxsi c0_i32_0 v0
  let v2 : BitVec 32 := Scalar.minsi c4_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S1024x7680 : Shape := ⟨2, ![1024, 7680]⟩
abbrev S4096x7680 : Shape := ⟨2, ![4096, 7680]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x7680, .bf16⟩
  | .hbm, ⟨2, _⟩ => ⟨S4096x1024, .f32⟩
  | .hbm, ⟨3, _⟩ => ⟨S1024x7680, .f32⟩
  | .hbm, ⟨4, _⟩ => ⟨S4096x7680, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S4096x1024 : Shape := ⟨2, ![4096, 1024]⟩
abbrev S1024x7680 : Shape := ⟨2, ![1024, 7680]⟩
abbrev S4096x7680 : Shape := ⟨2, ![4096, 7680]⟩
abbrev S1024x1536 : Shape := ⟨2, ![1024, 1536]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x7680, .bf16⟩
  | .hbm, ⟨2, _⟩ => ⟨S4096x7680, .bf16⟩
  | .hbm, ⟨3, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c4_i32 : BitVec 32 := 4#32
  let v1 : BitVec 32 := Scalar.maxsi c0_i32_0 v0
  let v2 : BitVec 32 := Scalar.minsi c4_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S1024x7680 : Shape := ⟨2, ![1024, 7680]⟩
abbrev S4096x7680 : Shape := ⟨2, ![4096, 7680]⟩
abbrev S7680x1024 : Shape := ⟨2, ![7680, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x7680, .bf16⟩
  | .hbm, ⟨2, _⟩ => ⟨S4096x7680, .bf16⟩
  | .hbm, ⟨3, _⟩ => ⟨S4096x1024, .f32⟩
  | .hbm, ⟨4, _⟩ => ⟨S1024x7680, .f32⟩
  | .hbm, ⟨5, _⟩ => ⟨S4096x7680, .f32⟩
  | .hbm, ⟨6, _⟩ => ⟨S4096x7680, .f32⟩
  | .hbm, ⟨7, _⟩ => ⟨S7680x1024, .f32⟩
  | .hbm, ⟨8, _⟩ => ⟨S1024x7680, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S1024x4096 : Shape := ⟨2, ![1024, 4096]⟩
abbrev S1024x7680 : Shape := ⟨2, ![1024, 7680]⟩
abbrev S4096x7680 : Shape := ⟨2, ![4096, 7680]⟩
abbrev S1024x1024 : Shape := ⟨2, ![1024, 1024]⟩
abbrev S1024x1536 : Shape := ⟨2, ![1024, 1536]⟩

abbrev nBuf : Space → Nat
  | .hbm => 4
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S1024x7680, .bf16⟩
  | .hbm, ⟨2, _⟩ => ⟨S4096x7680, .bf16⟩
  | .hbm, ⟨3, _⟩ => ⟨S1024x7680, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c4_i32 : BitVec 32 := 4#32
  let v1 : BitVec 32 := Scalar.maxsi c0_i32_0 v0
  let v2 : BitVec 32 := Scalar.minsi c4_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S1024x4096 : Shape := ⟨2, ![1024, 4096]⟩
abbrev S1024x7680 : Shape := ⟨2, ![1024, 7680]⟩
abbrev S4096x7680 : Shape := ⟨2, ![4096, 7680]⟩
abbrev S4096x1024 : Shape := ⟨2, ![4096, 1024]⟩
abbrev S7680x1024 : Shape := ⟨2, ![7680, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S1024x7680, .bf16⟩
  | .hbm, ⟨2, _⟩ => ⟨S4096x7680, .bf16⟩
  | .hbm, ⟨3, _⟩ => ⟨S4096x1024, .bf16⟩
  | .hbm, ⟨4, _⟩ => ⟨S4096x1024, .f32⟩
  | .hbm, ⟨5, _⟩ => ⟨S1024x7680, .f32⟩
  | .hbm, ⟨6, _⟩ => ⟨S4096x7680, .f32⟩
  | .hbm, ⟨7, _⟩ => ⟨S4096x7680, .f32⟩
  | .hbm, ⟨8, _⟩ => ⟨S7680x1024, .f32⟩
  | .hbm, ⟨9, _⟩ => ⟨S1024x7680, .f32⟩
  | .hbm, ⟨10, _⟩ => ⟨S4096x1024, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x1024 : Shape := ⟨2, ![4096, 1024]⟩
abbrev S4x1024x1408 : Shape := ⟨3, ![4, 1024, 1408]⟩
abbrev S4096x5632 : Shape := ⟨2, ![4096, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x1024, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S4096x1024 : Shape := ⟨2, ![4096, 1024]⟩
abbrev S4x1024x1408 : Shape := ⟨3, ![4, 1024, 1408]⟩
abbrev S4096x2816 : Shape := ⟨2, ![4096, 2816]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x2816, .bf16⟩
  | .hbm, ⟨3, _⟩ => ⟨S4096x2816, .bf16⟩
  | .hbm, ⟨4, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x1024 : Shape := ⟨2, ![4096, 1024]⟩
abbrev S4x1024x1408 : Shape := ⟨3, ![4, 1024, 1408]⟩
abbrev S4096x2816 : Shape := ⟨2, ![4096, 2816]⟩
abbrev S1024x4x1408 : Shape := ⟨3, ![1024, 4, 1408]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x2816, .bf16⟩
  | .hbm, ⟨3, _⟩ => ⟨S4096x2816, .bf16⟩
  | .hbm, ⟨4, _⟩ => ⟨S4096x1024, .f32⟩
  | .hbm, ⟨5, _⟩ => ⟨S4x1024x1408, .f32⟩
  | .hbm, ⟨6, _⟩ => ⟨S1024x4x1408, .f32⟩
  | .hbm, ⟨7, _⟩ => ⟨S1024x5632, .f32⟩
  | .hbm, ⟨8, _⟩ => ⟨S4096x5632, .f32⟩
  | .hbm, ⟨9, _⟩ => ⟨S4096x5632, .bf16⟩
  | .hbm, ⟨10, _⟩ => ⟨S4096x5632, .f32⟩
  | .hbm, ⟨11, _⟩ => ⟨S5632x1024, .f32⟩
  | .hbm, ⟨12, _⟩ => ⟨S1024x5632, .f32⟩
  | .hbm, ⟨13, _⟩ => ⟨S4096x1024, .f32⟩
  | .hbm, ⟨14, _⟩ => ⟨S1024x4x1408, .f32⟩
  | .hbm, ⟨15, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel7.lean ====
abbrev S1024x4096 : Shape := ⟨2, ![1024, 4096]⟩
abbrev S4x1024x1408 : Shape := ⟨3, ![4, 1024, 1408]⟩
abbrev S4096x2816 : Shape := ⟨2, ![4096, 2816]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 5
  | .vmem => 9
  | .smem => 0
  | _ => 0

abbrev bufTy : (tb : Table) → Fin (tcTables nBuf tb) → BufTy
  | .hbm, ⟨0, _⟩ => ⟨S1024x4096, .bf16⟩
  | .hbm, ⟨1, _⟩ => ⟨S4x1024x1408, .bf16⟩
  | .hbm, ⟨2, _⟩ => ⟨S4096x2816, .bf16⟩
  | .hbm, ⟨3, _⟩ => ⟨S4096x2816, .bf16⟩
  | .hbm, ⟨4, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .f32⟩
  | .local _ .vmem, ⟨7, _⟩ => ⟨S1x1024x1408, .f32⟩
  | .local _ .vmem, ⟨8, _⟩ => ⟨S1024x1408, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg2.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S1024x4096 : Shape := ⟨2, ![1024, 4096]⟩
abbrev S4x1024x1408 : Shape := ⟨3, ![4, 1024, 1408]⟩
abbrev S4096x2816 : Shape := ⟨2, ![4096, 2816]⟩
abbrev S4096x1024 : Shape := ⟨2, ![4096, 1024]⟩
abbrev S1024x4x1408 : Shape := ⟨3, ![1024, 4, 1408]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 17
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4x1024x1408, .bf16⟩
  | .hbm, ⟨2, _⟩ => ⟨S4096x2816, .bf16⟩
  | .hbm, ⟨3, _⟩ => ⟨S4096x2816, .bf16⟩
  | .hbm, ⟨4, _⟩ => ⟨S4096x1024, .bf16⟩
  | .hbm, ⟨5, _⟩ => ⟨S4096x1024, .f32⟩
  | .hbm, ⟨6, _⟩ => ⟨S4x1024x1408, .f32⟩
  | .hbm, ⟨7, _⟩ => ⟨S1024x4x1408, .f32⟩
  | .hbm, ⟨8, _⟩ => ⟨S1024x5632, .f32⟩
  | .hbm, ⟨9, _⟩ => ⟨S4096x5632, .f32⟩
  | .hbm, ⟨10, _⟩ => ⟨S4096x5632, .bf16⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S4096x1024, .f32⟩
  | .hbm, ⟨15, _⟩ => ⟨S1024x4x1408, .f32⟩
  | .hbm, ⟨16, _⟩ => ⟨S4x1024x1408, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel8.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference8Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S4096x2816 : Shape := ⟨2, ![4096, 2816]⟩
abbrev S2816x1024 : Shape := ⟨2, ![2816, 1024]⟩
abbrev S4096x1024 : Shape := ⟨2, ![4096, 1024]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .bf16⟩
  | .hbm, ⟨3, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .bf16⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S4096x2816, .f32⟩
  | .hbm, ⟨10, _⟩ => ⟨S4096x2816, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x2816 : Shape := ⟨2, ![4096, 2816]⟩
abbrev S2816x1024 : Shape := ⟨2, ![2816, 1024]⟩
abbrev S4096x1024 : Shape := ⟨2, ![4096, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .bf16⟩
  | .hbm, ⟨3, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .bf16⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S4096x2816, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference12Ideal.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S4096x1024 : Shape := ⟨2, ![4096, 1024]⟩
abbrev S4096x128 : Shape := ⟨2, ![4096, 128]⟩
abbrev S4096x7680 : Shape := ⟨2, ![4096, 7680]⟩
abbrev S1x128 : Shape := ⟨2, ![1, 128]⟩
abbrev S1024 : Shape := ⟨1, ![1024]⟩
abbrev S_ : Shape := ⟨0, ![]⟩
abbrev S256 : Shape := ⟨1, ![256]⟩
abbrev S1024x1 : Shape := ⟨2, ![1024, 1]⟩
abbrev S1x256 : Shape := ⟨2, ![1, 256]⟩
abbrev S1024x256 : Shape := ⟨2, ![1024, 256]⟩
abbrev S1x1024x256 : Shape := ⟨3, ![1, 1024, 256]⟩
abbrev S2x1024x256 : Shape := ⟨3, ![2, 1024, 256]⟩
abbrev S128x1024 : Shape := ⟨2, ![128, 1024]⟩
abbrev S128x128 : Shape := ⟨2, ![128, 128]⟩
abbrev S128x64 : Shape := ⟨2, ![128, 64]⟩
abbrev S256x64 : Shape := ⟨2, ![256, 64]⟩
abbrev S1024x64 : Shape := ⟨2, ![1024, 64]⟩
abbrev S1024x128 : Shape := ⟨2, ![1024, 128]⟩

abbrev nBuf : Space → Nat
  | .hbm => 65
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S4096x7680, .f32⟩
  | .hbm, ⟨3, _⟩ => ⟨S1x128, .f32⟩
  | .hbm, ⟨4, _⟩ => ⟨S1024, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S_, .i32⟩
  | .hbm, ⟨20, _⟩ => ⟨S_, .i1⟩
  | .hbm, ⟨21, _⟩ => ⟨S1024, .i1⟩
  | .hbm, ⟨22, _⟩ => ⟨S1024, .i1⟩
  | .hbm, ⟨23, _⟩ => ⟨S1024, .i1⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S256, .i32⟩
  | .hbm, ⟨28, _⟩ => ⟨S1024x1, .i32⟩
  | .hbm, ⟨29, _⟩ => ⟨S_, .i32⟩
  | .hbm, ⟨30, _⟩ => ⟨S1024x1, .i32⟩
  | .hbm, ⟨31, _⟩ => ⟨S1024x1, .i32⟩
  | .hbm, ⟨32, _⟩ => ⟨S1x256, .i32⟩
  | .hbm, ⟨33, _⟩ => ⟨S1024x256, .i32⟩
  | .hbm, ⟨34, _⟩ => ⟨S1024x256, .i32⟩
  | .hbm, ⟨35, _⟩ => ⟨S1024x256, .i32⟩
  | .hbm, ⟨36, _⟩ => ⟨S_, .i32⟩
  | .hbm, ⟨37, _⟩ => ⟨S1024x256, .i32⟩
  | .hbm, ⟨38, _⟩ => ⟨S1024x256, .i1⟩
  | .hbm, ⟨39, _⟩ => ⟨S_, .i32⟩
  | .hbm, ⟨40, _⟩ => ⟨S1024x256, .i32⟩
  | .hbm, ⟨41, _⟩ => ⟨S1024x256, .i1⟩
  | .hbm, ⟨42, _⟩ => ⟨S1024x256, .i1⟩
  | .hbm, ⟨43, _⟩ => ⟨S1x256, .i32⟩
  | .hbm, ⟨44, _⟩ => ⟨S_, .i32⟩
  | .hbm, ⟨45, _⟩ => ⟨S1x256, .i32⟩
  | .hbm, ⟨46, _⟩ => ⟨S1x256, .i1⟩
  | .hbm, ⟨47, _⟩ => ⟨S1024x256, .i1⟩
  | .hbm, ⟨48, _⟩ => ⟨S1024x256, .i1⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S1024x256, .f32⟩
  | .hbm, ⟨53, _⟩ => ⟨S1024x256, .f32⟩
  | .hbm, ⟨54, _⟩ => ⟨S1024x256, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S1024x256, .f32⟩
  | .hbm, ⟨59, _⟩ => ⟨S1024x256, .f32⟩
  | .hbm, ⟨60, _⟩ => ⟨S1024x256, .f32⟩
  | .hbm, ⟨61, _⟩ => ⟨S1x1024x256, .f32⟩
  | .hbm, ⟨62, _⟩ => ⟨S1x1024x256, .f32⟩
  | .hbm, ⟨63, _⟩ => ⟨S2x1024x256, .f32⟩
  | .hbm, ⟨64, _⟩ => ⟨S4096x1024, .bf16⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x1024x256, .f32⟩
  | .local _ .vmem, ⟨12, _⟩ => ⟨S1x1024x256, .f32⟩
  | .local _ .vmem, ⟨13, _⟩ => ⟨S128x1024, .bf16⟩
  | .local _ .vmem, ⟨14, _⟩ => ⟨S128x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c_1 : Ref sig .tc := ⟨.hbm, 36, rfl⟩
abbrev main_v10 : Ref sig .tc := ⟨.hbm, 37, rfl⟩
abbrev main_v11 : Ref sig .tc := ⟨.hbm, 38, rfl⟩
abbrev main_c_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c_3 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst : Ref sig .tc := ⟨.hbm, 49, rfl⟩
abbrev main_cst_4 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v20 : Ref sig .tc := ⟨.hbm, 54, rfl⟩
abbrev main_cst_5 : Ref sig .tc := ⟨.hbm, 55, rfl⟩
abbrev main_cst_6 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c58_i32 : BitVec 32 := 58#32
  let c0_i32_0 : BitVec 32 := 0#32
  ![v1.toNat, c58_i32.toNat]

def cc0_transform_4 (i : grid0.Coords) : Fin 2 → Nat :=
  let arg0 : BitVec 32 := BitVec.ofNat 32 (i 0).val
  let c58_i32 : BitVec 32 := 58#32
  let c0_i32 : BitVec 32 := 0#32
  ![arg0.toNat, c58_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S4096x1024 : Shape := ⟨2, ![4096, 1024]⟩
abbrev S4096x128 : Shape := ⟨2, ![4096, 128]⟩
abbrev S4096x7680 : Shape := ⟨2, ![4096, 7680]⟩
abbrev S1x128 : Shape := ⟨2, ![1, 128]⟩
abbrev S128x128 : Shape := ⟨2, ![128, 128]⟩
abbrev S_ : Shape := ⟨0, ![]⟩
abbrev S3968x128 : Shape := ⟨2, ![3968, 128]⟩
abbrev S32x128x2x8x64 : Shape := ⟨5, ![32, 128, 2, 8, 64]⟩
abbrev S32x128x2x64 : Shape := ⟨4, ![32, 128, 2, 64]⟩
abbrev S32x256x2x64 : Shape := ⟨4, ![32, 256, 2, 64]⟩
abbrev S32x2x256x128x8 : Shape := ⟨5, ![32, 2, 256, 128, 8]⟩
abbrev S32x2x8x128x256 : Shape := ⟨5, ![32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S1x16 : Shape := ⟨2, ![1, 16]⟩
abbrev S16 : Shape := ⟨1, ![16]⟩
abbrev S1x2x8x1x1 : Shape := ⟨5, ![1, 2, 8, 1, 1]⟩
abbrev S32x2x8x128 : Shape := ⟨4, ![32, 2, 8, 128]⟩
abbrev S32x2x8x128x1 : Shape := ⟨5, ![32, 2, 8, 128, 1]⟩
abbrev S32x2x64x8x128 : Shape := ⟨5, ![32, 2, 64, 8, 128]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S4096x7680, .f32⟩
  | .hbm, ⟨3, _⟩ => ⟨S1x128, .f32⟩
  | .hbm, ⟨4, _⟩ => ⟨S4096x128, .f32⟩
  | .hbm, ⟨5, _⟩ => ⟨S128x128, .f32⟩
  | .hbm, ⟨6, _⟩ => ⟨S_, .f32⟩
  | .hbm, ⟨7, _⟩ => ⟨S128x128, .f32⟩
  | .hbm, ⟨8, _⟩ => ⟨S3968x128, .f32⟩
  | .hbm, ⟨9, _⟩ => ⟨S4096x128, .f32⟩
  | .hbm, ⟨10, _⟩ => ⟨S128x128, .f32⟩
  | .hbm, ⟨11, _⟩ => ⟨S_, .f32⟩
  | .hbm, ⟨12, _⟩ => ⟨S128x128, .f32⟩
  | .hbm, ⟨13, _⟩ => ⟨S3968x128, .f32⟩
  | .hbm, ⟨14, _⟩ => ⟨S4096x128, .f32⟩
  | .hbm, ⟨15, _⟩ => ⟨S32x128x2x8x64, .f32⟩
  | .hbm, ⟨16, _⟩ => ⟨S32x128x2x64, .f32⟩
  | .hbm, ⟨17, _⟩ => ⟨S32x128x2x64, .f32⟩
  | .hbm, ⟨18, _⟩ => ⟨S32x256x2x64, .f32⟩
  | .hbm, ⟨19, _⟩ => ⟨S32x128x2x64, .f32⟩
  | .hbm, ⟨20, _⟩ => ⟨S32x128x2x64, .f32⟩
  | .hbm, ⟨21, _⟩ => ⟨S32x256x2x64, .f32⟩
  | .hbm, ⟨22, _⟩ => ⟨S32x2x256x128x8, .f32⟩
  | .hbm, ⟨23, _⟩ => ⟨S32x2x8x128x256, .f32⟩
  | .hbm, ⟨24, _⟩ => ⟨S_, .f32⟩
  | .hbm, ⟨25, _⟩ => ⟨S32x2x8x128x256, .f32⟩
  | .hbm, ⟨26, _⟩ => ⟨S32x2x8x128x256, .f32⟩
  | .hbm, ⟨27, _⟩ => ⟨S128, .i32⟩
  | .hbm, ⟨28, _⟩ => ⟨S128x1, .i32⟩
  | .hbm, ⟨29, _⟩ => ⟨S256, .i32⟩
  | .hbm, ⟨30, _⟩ => ⟨S1x256, .i32⟩
  | .hbm, ⟨31, _⟩ => ⟨S_, .i32⟩
  | .hbm, ⟨32, _⟩ => ⟨S128x1, .i32⟩
  | .hbm, ⟨33, _⟩ => ⟨S128x1, .i32⟩
  | .hbm, ⟨34, _⟩ => ⟨S128x256, .i32⟩
  | .hbm, ⟨35, _⟩ => ⟨S128x256, .i32⟩
  | .hbm, ⟨36, _⟩ => ⟨S128x256, .i32⟩
  | .hbm, ⟨37, _⟩ => ⟨S32, .i32⟩
  | .hbm, ⟨38, _⟩ => ⟨S32x1x1, .i32⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S128x256, .i1⟩
  | .hbm, ⟨46, _⟩ => ⟨S_, .i32⟩
  | .hbm, ⟨47, _⟩ => ⟨S32x1x1, .i32⟩
  | .hbm, ⟨48, _⟩ => ⟨S32x1x1, .i32⟩
  | .hbm, ⟨49, _⟩ => ⟨S1x1x256, .i32⟩
  | .hbm, ⟨50, _⟩ => ⟨S32x1x256, .i32⟩
  | .hbm, ⟨51, _⟩ => ⟨S32x1x256, .i32⟩
  | .hbm, ⟨52, _⟩ => ⟨S32x1x256, .i32⟩
  | .hbm, ⟨53, _⟩ => ⟨S_, .i32⟩
  | .hbm, ⟨54, _⟩ => ⟨S32x1x256, .i32⟩
  | .hbm, ⟨55, _⟩ => ⟨S32x1x256, .i1⟩
  | .hbm, ⟨56, _⟩ => ⟨S1x128x256, .i1⟩
  | .hbm, ⟨57, _⟩ => ⟨S32x128x256, .i1⟩
  | .hbm, ⟨58, _⟩ => ⟨S32x128x256, .i1⟩
  | .hbm, ⟨59, _⟩ => ⟨S32x128x256, .i1⟩
  | .hbm, ⟨60, _⟩ => ⟨S32x1x1x128x256, .i1⟩
  | .hbm, ⟨61, _⟩ => ⟨S_, .f32⟩
  | .hbm, ⟨62, _⟩ => ⟨S_, .f32⟩
  | .hbm, ⟨63, _⟩ => ⟨S32x2x8x128x256, .i1⟩
  | .hbm, ⟨64, _⟩ => ⟨S32x2x8x128x256, .f32⟩
  | .hbm, ⟨65, _⟩ => ⟨S32x2x8x128x256, .f32⟩
  | .hbm, ⟨66, _⟩ => ⟨S1x16, .f32⟩
  | .hbm, ⟨67, _⟩ => ⟨S16, .f32⟩
  | .hbm, ⟨68, _⟩ => ⟨S1x2x8x1x1, .f32⟩
  | .hbm, ⟨69, _⟩ => ⟨S_, .f32⟩
  | .hbm, ⟨70, _⟩ => ⟨S32x2x8x128, .f32⟩
  | .hbm, ⟨71, _⟩ => ⟨S32x2x8x128x1, .f32⟩
  | .hbm, ⟨72, _⟩ => ⟨S32x2x8x128x1, .f32⟩
  | .hbm, ⟨73, _⟩ => ⟨S32x2x8x128x1, .f32⟩
  | .hbm, ⟨74, _⟩ => ⟨S32x2x8x128x256, .f32⟩
  | .hbm, ⟨75, _⟩ => ⟨S32x2x8x128x256, .f32⟩
  | .hbm, ⟨76, _⟩ => ⟨S32x2x8x128x256, .f32⟩
  | .hbm, ⟨77, _⟩ => ⟨S_, .f32⟩
  | .hbm, ⟨78, _⟩ => ⟨S32x2x8x128, .f32⟩
  | .hbm, ⟨79, _⟩ => ⟨S32x2x8x128x1, .f32⟩
  | .hbm, ⟨80, _⟩ => ⟨S32x2x8x128x1, .f32⟩
  | .hbm, ⟨81, _⟩ => ⟨S32x2x8x128x1, .f32⟩
  | .hbm, ⟨82, _⟩ => ⟨S32x2x8x128x1, .f32⟩
  | .hbm, ⟨83, _⟩ => ⟨S32x2x8x128x1, .f32⟩
  | .hbm, ⟨84, _⟩ => ⟨S32x2x8x128x256, .f32⟩
  | .hbm, ⟨85, _⟩ => ⟨S32x2x8x128x256, .f32⟩
  | .hbm, ⟨86, _⟩ => ⟨S32x2x64x8x128, .f32⟩
  | .hbm, ⟨87, _⟩ => ⟨S32x128x2x8x64, .f32⟩
  | .hbm, ⟨88, _⟩ => ⟨S4096x1024, .f32⟩
  | .hbm, ⟨89, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_2 : Ref sig .tc := ⟨.hbm, 39, rfl⟩
abbrev main_v31 : Ref sig .tc := ⟨.hbm, 40, rfl⟩
abbrev main_v32 : Ref sig .tc := ⟨.hbm, 41, rfl⟩
abbrev main_c_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.Rows.lean ====
/- One row of the attention's softmax with a sink, and its gradient, over the extended reals. -/
module

public import Idealize.ShloMosaic.PureOps.Ideal
public import Idealize.ShloMosaic.PureOps.Ideal.Laws

@[expose] public section

noncomputable section

open Idealize.ShloMosaic
open scoped BigOperators

namespace Cert.Attn

/-- The pattern of minus infinity denotes `⊥`. -/
theorem bits_bot : Ideal.ofBits .f32 0xFF800000#32 = ⊥ := by simp [Ideal.ofBits, Ideal.ieee]

/-- The pattern of plus infinity denotes `⊤`. -/
theorem bits_top : Ideal.ofBits .f32 0x7F800000#32 = ⊤ := by simp [Ideal.ofBits, Ideal.ieee]

/-- The scale of the scores, one eighth. -/
def c8 : EReal := Ideal.ofBits .f32 0x3E000000#32

theorem coe_sum {ι : Type} [Fintype ι] (f : ι → ℝ) : ((∑ j, f j : ℝ) : EReal) = ∑ j, (f j : EReal) := by
  classical
  refine Finset.induction_on (Finset.univ : Finset ι) (by simp) fun a t ha ih => ?_
  rw [Finset.sum_insert ha, Finset.sum_insert ha, EReal.coe_add, ih]

variable (s g : Fin 256 → EReal) (σ : EReal)

/-- The greatest score of the row. -/
def rTop : EReal := Finset.univ.fold max ⊥ s

/-- The row's shift: its greatest score or the sink. -/
def rM : EReal := max (rTop s) σ

def rP (j : Fin 256) : EReal := Ideal.exp (s j - rM s σ)

def rE : EReal := Ideal.exp (σ - rM s σ)

def rDen : EReal := ∑ j, rP s σ j + rE s σ

def rInv : EReal := Ideal.div 1 (rDen s σ * rDen s σ)

def rProb (j : Fin 256) : EReal := Ideal.div (rP s σ j) (rDen s σ)

/-- The gradient of the denominator. -/
def rDd : EReal := -∑ j, g j * rInv s σ * rP s σ j

/-- The gradient of the shifted scores. -/
def rDs (j : Fin 256) : EReal := (Ideal.div (g j) (rDen s σ) + rDd s g σ) * rP s σ j

/-- The gradient of the shifted sink. -/
def rSink : EReal := rDd s g σ * rE s σ

/-- The gradient that reaches the shift itself. -/
def rTot : EReal := -rSink s g σ + ∑ j, -rDs s g σ j

/-- Whether a score equals the greatest one. -/
def rInd (j : Fin 256) : EReal := if s j = rTop s then 1 else 0

/-- How many scores equal the greatest one. -/
def rCount : EReal := ∑ j, rInd s j

theorem le_rTop (j : Fin 256) : s j ≤ rTop s := by
  unfold rTop
  rw [Finset.le_fold_max]
  exact Or.inr ⟨j, Finset.mem_univ j, le_rfl⟩

theorem exists_rTop : ∃ j, s j = rTop s := by
  obtain ⟨j, -, hj⟩ := Finset.exists_max_image (Finset.univ : Finset (Fin 256)) s ⟨0, Finset.mem_univ 0⟩
  refine ⟨j, le_antisymm (le_rTop s j) ?_⟩
  unfold rTop
  rw [Finset.fold_max_le]
  exact ⟨bot_le, fun x hx => hj x hx⟩

theorem rCount_ne_zero : rCount s ≠ 0 := by
  obtain ⟨j, hj⟩ := exists_rTop s
  have h : (1 : EReal) ≤ rCount s := by
    have := Finset.single_le_sum (f := fun j => if s j = rTop s then (1 : EReal) else 0) (s := Finset.univ)
      (fun i _ => by split_ifs <;> simp) (Finset.mem_univ j)
    simpa [hj, rCount, rInd] using this
  intro h0
  rw [h0] at h
  exact absurd h (by simp)

/-- The row's three cases come to two: nothing is left of it, or it is made of reals and the denominator is positive. -/
theorem row_cases : ((∀ j, rP s σ j = 0) ∧ rE s σ = 0)
    ∨ ∃ (p : Fin 256 → ℝ) (e : ℝ), (∀ j, rP s σ j = p j) ∧ rE s σ = e ∧ 0 < ∑ j, p j + e := by
  have key : ∀ (x M : EReal), x ≤ M → (M = ⊤ ∨ M = ⊥ → Ideal.exp (x - M) = 0)
      ∧ (∀ r : ℝ, M = r → ∃ y : ℝ, 0 ≤ y ∧ Ideal.exp (x - M) = y ∧ (x = M → y = 1)) := by
    intro x M hx
    refine ⟨?_, ?_⟩
    · rintro (rfl | rfl)
      · simp [sub_eq_add_neg]
      · have : x = ⊥ := le_bot_iff.mp hx
        simp [this, sub_eq_add_neg]
    · rintro r rfl
      induction x using EReal.rec with
      | bot => exact ⟨0, le_rfl, by simp [sub_eq_add_neg], fun h => absurd h (by simp)⟩
      | top => exact absurd hx (by simp)
      | coe y =>
        refine ⟨Real.exp (y - r), (Real.exp_pos _).le, ?_, ?_⟩
        · rw [← EReal.coe_sub, Ideal.exp_coe]
        · intro h
          have : y = r := by exact_mod_cast h
          simp [this]
  have hs : ∀ j, s j ≤ rM s σ := fun j => (le_rTop s j).trans (le_max_left _ _)
  have hσ : σ ≤ rM s σ := le_max_right _ _
  by_cases hM : rM s σ = ⊤ ∨ rM s σ = ⊥
  · exact Or.inl ⟨fun j => (key _ _ (hs j)).1 hM, (key _ _ hσ).1 hM⟩
  · right
    obtain ⟨r, hr⟩ : ∃ r : ℝ, rM s σ = r := by
      induction h : rM s σ using EReal.rec with
      | bot => exact absurd (Or.inr h) hM
      | top => exact absurd (Or.inl h) hM
      | coe y => exact ⟨y, rfl⟩
    choose p hp0 hp hp1 using fun j => (key _ _ (hs j)).2 r hr
    obtain ⟨e, he0, he, he1⟩ := (key _ _ hσ).2 r hr
    refine ⟨p, e, hp, he, ?_⟩
    have hsum : 0 ≤ ∑ j, p j := Finset.sum_nonneg fun j _ => hp0 j
    rcases max_choice (rTop s) σ with h | h
    · obtain ⟨j, hj⟩ := exists_rTop s
      have h1 : p j = 1 := hp1 j (hj.trans h.symm)
      have h2 : p j ≤ ∑ j, p j := Finset.single_le_sum (fun i _ => hp0 i) (Finset.mem_univ j)
      linarith
    · have h1 : e = 1 := he1 h.symm
      linarith

/-- A row's gradient does not look at what meets a score of minus infinity. -/
theorem rP_bot {j : Fin 256} (h : s j = ⊥) : rP s σ j = 0 := by
  simp [rP, h, sub_eq_add_neg]

theorem rDs_bot {j : Fin 256} (h : s j = ⊥) : rDs s g σ j = 0 := by
  rw [rDs, rP_bot s σ h, mul_zero]

theorem rDd_congr (g' : Fin 256 → EReal) (h : ∀ j, s j = ⊥ ∨ g j = g' j) : rDd s g σ = rDd s g' σ := by
  unfold rDd
  congr 1
  refine Finset.sum_congr rfl fun j _ => ?_
  rcases h j with hj | hj
  · rw [rP_bot s σ hj, mul_zero, mul_zero]
  · rw [hj]

theorem rDs_congr (g' : Fin 256 → EReal) (h : ∀ j, s j = ⊥ ∨ g j = g' j) (j : Fin 256) : rDs s g σ j = rDs s g' σ j := by
  rcases h j with hj | hj
  · rw [rDs_bot s g σ hj, rDs_bot s g' σ hj]
  · rw [rDs, rDs, rDd_congr s g σ g' h, hj]

theorem rSink_congr (g' : Fin 256 → EReal) (h : ∀ j, s j = ⊥ ∨ g j = g' j) : rSink s g σ = rSink s g' σ := by
  rw [rSink, rSink, rDd_congr s g σ g' h]

/-- Moving every score and the sink by the same amount changes nothing, so nothing reaches the shift: stated where the
    cotangents are real. -/
theorem rTot_eq_zero (hg : ∀ j, ∃ x : ℝ, g j = x) : rTot s g σ = 0 := by
  rcases row_cases s σ with ⟨hp, he⟩ | ⟨p, e, hp, he, hD⟩
  · simp [rTot, rSink, rDs, hp, he]
  · choose x hx using hg
    have hden : rDen s σ = ((∑ j, p j + e : ℝ) : EReal) := by
      rw [rDen, he, EReal.coe_add, coe_sum]
      simp only [hp]
    set D : ℝ := ∑ j, p j + e with hDdef
    have hD0 : D ≠ 0 := hD.ne'
    have hinv : rInv s σ = ((1 / (D * D) : ℝ) : EReal) := by
      rw [rInv, hden, ← EReal.coe_mul, Ideal.div_coe (mul_ne_zero hD0 hD0), one_mul]
    have hdd : rDd s g σ = ((-∑ j, x j * (1 / (D * D)) * p j : ℝ) : EReal) := by
      rw [rDd, EReal.coe_neg, coe_sum]
      congr 1
      refine Finset.sum_congr rfl fun j _ => ?_
      rw [hx, hinv, hp, EReal.coe_mul, EReal.coe_mul]
    set dd : ℝ := -∑ j, x j * (1 / (D * D)) * p j with hdddef
    have hds : ∀ j, rDs s g σ j = (((x j * (1 / D) + dd) * p j : ℝ) : EReal) := by
      intro j
      rw [rDs, hx, hden, Ideal.div_coe hD0, hdd, hp, EReal.coe_mul, EReal.coe_add, EReal.coe_mul]
    have hfin : -(dd * e) + ∑ j, -((x j * (1 / D) + dd) * p j) = 0 := by
      have h1 : ∑ j, -((x j * (1 / D) + dd) * p j) = -(1 / D) * ∑ j, x j * p j - dd * ∑ j, p j := by
        rw [Finset.mul_sum, Finset.mul_sum, ← Finset.sum_sub_distrib]
        exact Finset.sum_congr rfl fun j _ => by ring
      have h2 : dd = -(1 / (D * D)) * ∑ j, x j * p j := by
        rw [hdddef, Finset.mul_sum, ← Finset.sum_neg_distrib]
        exact Finset.sum_congr rfl fun j _ => by ring
      have h3 : ∑ j, p j = D - e := by rw [hDdef]; ring
      rw [h1, h3]
      have h4 : dd * D = -(1 / D) * ∑ j, x j * p j := by
        rw [h2]; field_simp
      linarith
    rw [rTot, rSink, hdd, he, ← EReal.coe_mul, ← EReal.coe_neg]
    simp only [hds, ← EReal.coe_neg]
    rw [← coe_sum, ← EReal.coe_add, hfin, EReal.coe_zero]

/-! ## One group of eight heads: 1024 rows of queries against a band of 256 keys -/

section group

variable (Q DO : Fin 1024 → Fin 64 → EReal) (K V K' V' : Fin 256 → Fin 64 → EReal) (B : Fin 1024 → Fin 256 → EReal)
  (sk : Fin 1024 → EReal)

/-- The scores under the additive mask. -/
def hS (r : Fin 1024) (j : Fin 256) : EReal := (∑ d, Q r d * K j d) * c8 + B r j

/-- The gradient of the probabilities. -/
def hG (r : Fin 1024) (j : Fin 256) : EReal := ∑ d, DO r d * V j d

/-- The gradient of the scores before the scale. -/
def hDs (r : Fin 1024) (j : Fin 256) : EReal := rDs (hS Q K B r) (hG DO V r) (sk r) j * c8

def hDq (r : Fin 1024) (d : Fin 64) : EReal := ∑ j, hDs Q DO K V B sk r j * K j d

def hDk (j : Fin 256) (d : Fin 64) : EReal := ∑ r, hDs Q DO K V B sk r j * Q r d

def hDv (j : Fin 256) (d : Fin 64) : EReal := ∑ r, rProb (hS Q K B r) (sk r) j * DO r d

def hSink (r : Fin 1024) : EReal := rSink (hS Q K B r) (hG DO V r) (sk r)

theorem hS_bot {r : Fin 1024} {j : Fin 256} (h : B r j = ⊥) : hS Q K B r j = ⊥ := by
  rw [hS, h, EReal.add_bot]

variable (hK : ∀ r j, B r j = ⊥ ∨ ((∀ d, K j d = K' j d) ∧ ∀ d, V j d = V' j d))

include hK

theorem hS_congr (r : Fin 1024) : hS Q K B r = hS Q K' B r := by
  funext j
  rcases hK r j with h | h
  · rw [hS_bot Q K B h, hS_bot Q K' B h]
  · simp only [hS, h.1]

theorem hG_congr (r : Fin 1024) (j : Fin 256) : hS Q K' B r j = ⊥ ∨ hG DO V r j = hG DO V' r j := by
  rcases hK r j with h | h
  · exact Or.inl (hS_bot Q K' B h)
  · exact Or.inr (by simp only [hG, h.2])

theorem hDs_congr (r : Fin 1024) (j : Fin 256) : hDs Q DO K V B sk r j = hDs Q DO K' V' B sk r j := by
  rw [hDs, hDs, hS_congr Q K V K' V' B hK, rDs_congr _ _ _ _ (hG_congr Q DO K V K' V' B hK r)]

theorem hDq_congr (r : Fin 1024) (d : Fin 64) : hDq Q DO K V B sk r d = hDq Q DO K' V' B sk r d := by
  refine Finset.sum_congr rfl fun j _ => ?_
  rw [hDs_congr Q DO K V K' V' B sk hK]
  rcases hK r j with h | h
  · rw [hDs, rDs_bot _ _ _ (hS_bot Q K' B h), zero_mul, zero_mul, zero_mul]
  · rw [h.1]

theorem hDk_congr (j : Fin 256) (d : Fin 64) : hDk Q DO K V B sk j d = hDk Q DO K' V' B sk j d :=
  Finset.sum_congr rfl fun r _ => by rw [hDs_congr Q DO K V K' V' B sk hK]

theorem hDv_congr (j : Fin 256) (d : Fin 64) : hDv Q DO K B sk j d = hDv Q DO K' B sk j d :=
  Finset.sum_congr rfl fun r _ => by rw [hS_congr Q K V K' V' B hK]

theorem hSink_congr (r : Fin 1024) : hSink Q DO K V B sk r = hSink Q DO K' V' B sk r := by
  rw [hSink, hSink, hS_congr Q K V K' V' B hK, rSink_congr _ _ _ _ (hG_congr Q DO K V K' V' B hK r)]

end group

end Cert.Attn
-- ==== Proof.KHalf.lean ====
module

public import proofs.«01_k».proof.Proof.Rows
public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen

open Cert.Attn

theorem shift_row : ∀ r : Fin 1024, IntOp.shrsi ArithUnit.vector (BitVec.ofNat 32 r.val) 7#32 = BitVec.ofNat 32 (r.val / 128) := by
  decide +kernel

/-- The lane that a row of the stack belongs to: its head. -/
theorem lane_select (r : Fin 1024) (l : Fin 128) (o : ℕ) (ho : o < 128) (x y : EReal) :
    Scalar.select (IntOp.cmpi CmpIPredicate.eq (BitVec.ofNat 32 l.val)
        (IntOp.addi (IntOp.shrsi ArithUnit.vector (BitVec.ofNat 32 r.val) 7#32) (BitVec.ofNat 32 o))) x y
      = if r.val / 128 + o = l.val then x else y := by
  rw [shift_row]
  have h : IntOp.addi (BitVec.ofNat 32 (r.val / 128)) (BitVec.ofNat 32 o) = BitVec.ofNat 32 (r.val / 128 + o) := by
    simp [IntOp.addi, BitVec.ofNat_add]
  rw [h]
  by_cases hl : r.val / 128 + o = l.val
  · rw [if_pos hl, hl]; simp [IntOp.cmpi, Scalar.select]
  · rw [if_neg hl]
    have : BitVec.ofNat 32 l.val ≠ BitVec.ofNat 32 (r.val / 128 + o) := by
      intro h
      have := congrArg BitVec.toNat h
      simp only [BitVec.toNat_ofNat] at this
      omega
    have hb : (BitVec.ofNat 32 l.val == BitVec.ofNat 32 (r.val / 128 + o)) = false := by simpa using this
    simp [IntOp.cmpi, Scalar.select, hb]

theorem sum_lane (o : ℕ) (ho : o < 120) (r : Fin 1024) (f : Fin 128 → EReal) :
    ∑ x : Fin 128, (if r.val / 128 + o = x.val then f x else 0) = f ⟨r.val / 128 + o, by omega⟩ := by
  rw [Finset.sum_eq_single (⟨r.val / 128 + o, by omega⟩ : Fin 128)]
  · simp
  · intro b _ hb
    rw [if_neg]
    intro h
    exact hb (Fin.ext h.symm)
  · simp

/-! The body's first half (query heads 0 to 7). -/

section half0

variable (σ : Vec Ideal S1x128 .f32) (β v24 : FVec Ideal S1024x256 .f32) (v9 v12 : FVec Ideal S256x64 .f32) (v21 : FVec Ideal S1024x64 .f32)
  (d0 d1 d2 d3 d4 d5 d6 d7 : Vec Ideal S128x64 .f32)

theorem s0_apply (a b q0 q1 q2 q3 q4 q5 q6 q7 : Vec Ideal S128x64 .f32) (r : Fin 1024) (j : Fin 256) :
    k0_pay14 β (k0_pay13 a b q0 q1 q2 q3 q4 q5 q6 q7) (ix2 r j)
      = (∑ d : Fin 64, k0_pay12 q0 q1 q2 q3 q4 q5 q6 q7 (ix2 r d) * k0_pay10 a b (ix2 j d)) * c8 + β (ix2 r j) := by
  unfold k0_pay14 k0_pay13 c8
  pointwise []

theorem sink0_apply (r : Fin 1024) : k0_pay16 σ (ix2 r 0) = σ (ix2 0 ⟨r.val / 128, by omega⟩) := by
  unfold k0_pay16 k0_pay15
  pointwise []
  exact (Finset.sum_congr rfl fun x _ => lane_select r x 0 (by omega) _ _).trans (sum_lane 0 (by omega) r _)

theorem p0_apply (r : Fin 1024) (j : Fin 256) :
    k0_pay18 σ β v24 (ix2 r j) = rP (fun j => k0_pay14 β v24 (ix2 r j)) (k0_pay16 σ (ix2 r 0)) j := by
  unfold k0_pay18 k0_pay17 rP rM rTop
  pointwise []
  rw [bits_bot]

theorem e0_apply (r : Fin 1024) :
    k0_pay19 σ β v24 (ix2 r 0) = rE (fun j => k0_pay14 β v24 (ix2 r j)) (k0_pay16 σ (ix2 r 0)) := by
  unfold k0_pay19 k0_pay17 rE rM rTop
  pointwise []
  rw [bits_bot]

theorem den0_apply (r : Fin 1024) :
    k0_pay20 σ β v24 (ix2 r 0) = rDen (fun j => k0_pay14 β v24 (ix2 r j)) (k0_pay16 σ (ix2 r 0)) := by
  unfold k0_pay20 rDen
  pointwise []
  simp only [p0_apply, e0_apply]

theorem prob0_apply (r : Fin 1024) (j : Fin 256) :
    k0_pay21 σ β v24 (ix2 r j) = rProb (fun j => k0_pay14 β v24 (ix2 r j)) (k0_pay16 σ (ix2 r 0)) j := by
  unfold k0_pay21 rProb
  pointwise []
  simp only [p0_apply, den0_apply]

theorem inv0_apply (r : Fin 1024) :
    k0_pay22 σ β v24 (ix2 r 0) = rInv (fun j => k0_pay14 β v24 (ix2 r j)) (k0_pay16 σ (ix2 r 0)) := by
  unfold k0_pay22 rInv
  pointwise []
  simp only [den0_apply]

theorem g0_apply (r : Fin 1024) (j : Fin 256) :
    k0_pay24 v12 d0 d1 d2 d3 d4 d5 d6 d7 (ix2 r j) = ∑ d : Fin 64, k0_pay23 d0 d1 d2 d3 d4 d5 d6 d7 (ix2 r d) * v12 (ix2 j d) := by
  unfold k0_pay24
  pointwise []

theorem dd0_apply (r : Fin 1024) :
    k0_pay26 v12 (k0_pay18 σ β v24) (k0_pay22 σ β v24) d0 d1 d2 d3 d4 d5 d6 d7 (ix2 r 0)
      = rDd (fun j => k0_pay14 β v24 (ix2 r j)) (fun j => k0_pay24 v12 d0 d1 d2 d3 d4 d5 d6 d7 (ix2 r j)) (k0_pay16 σ (ix2 r 0)) := by
  unfold k0_pay26 rDd
  pointwise []
  simp only [p0_apply, inv0_apply, zero_sub]

theorem ds0_apply (r : Fin 1024) (j : Fin 256) :
    k0_pay28 v12 (k0_pay18 σ β v24) (k0_pay20 σ β v24) (k0_pay22 σ β v24) d0 d1 d2 d3 d4 d5 d6 d7 (ix2 r j)
      = rDs (fun j => k0_pay14 β v24 (ix2 r j)) (fun j => k0_pay24 v12 d0 d1 d2 d3 d4 d5 d6 d7 (ix2 r j)) (k0_pay16 σ (ix2 r 0)) j * c8 := by
  unfold k0_pay28 rDs c8
  pointwise []
  simp only [p0_apply, den0_apply, dd0_apply, Fin.sum_univ_one]

theorem dq0_apply (v46 v51 v56) (r : Fin 1024) (d : Fin 64) :
    k0_pay29 v9 v12 v46 v51 v56 d0 d1 d2 d3 d4 d5 d6 d7 (ix2 r d)
      = ∑ j : Fin 256, k0_pay28 v12 v46 v51 v56 d0 d1 d2 d3 d4 d5 d6 d7 (ix2 r j) * v9 (ix2 j d) := by
  unfold k0_pay29
  pointwise []

theorem dk0_apply (v46 v51 v56) (j : Fin 256) (d : Fin 64) :
    k0_pay30 v12 v21 v46 v51 v56 d0 d1 d2 d3 d4 d5 d6 d7 (ix2 j d)
      = ∑ r : Fin 1024, k0_pay28 v12 v46 v51 v56 d0 d1 d2 d3 d4 d5 d6 d7 (ix2 r j) * v21 (ix2 r d) := by
  unfold k0_pay30
  pointwise []

theorem dv0_apply (v53) (j : Fin 256) (d : Fin 64) :
    k0_pay25 v53 d0 d1 d2 d3 d4 d5 d6 d7 (ix2 j d)
      = ∑ r : Fin 1024, v53 (ix2 r j) * k0_pay23 d0 d1 d2 d3 d4 d5 d6 d7 (ix2 r d) := by
  unfold k0_pay25
  pointwise []

theorem dsk0_apply (l : Fin 128) :
    k0_pay27 v12 k0_pay15 (k0_pay18 σ β v24) (k0_pay19 σ β v24) (k0_pay22 σ β v24) d0 d1 d2 d3 d4 d5 d6 d7 (ix2 0 l)
      = ∑ r : Fin 1024, if r.val / 128 = l.val then
          rSink (fun j => k0_pay14 β v24 (ix2 r j)) (fun j => k0_pay24 v12 d0 d1 d2 d3 d4 d5 d6 d7 (ix2 r j)) (k0_pay16 σ (ix2 r 0)) else 0 := by
  unfold k0_pay27 rSink k0_pay15
  pointwise []
  simp only [e0_apply, dd0_apply, Fin.sum_univ_one]
  exact Finset.sum_congr rfl fun x _ => lane_select x l 0 (by omega) _ _

end half0

/-! The body's second half (query heads 8 to 15). -/

section half1

variable (σ : Vec Ideal S1x128 .f32) (β v147 : FVec Ideal S1024x256 .f32) (v129 v132 : FVec Ideal S256x64 .f32) (v141 : FVec Ideal S1024x64 .f32)
  (v160 v162 : FVec Ideal S1024x1 .f32) (h : ∀ r : Fin 1024, v162 (ix2 r 0) = rTop fun j => v147 (ix2 r j))
  (d0 d1 d2 d3 d4 d5 d6 d7 : Vec Ideal S128x64 .f32)

theorem s1_apply (q0 q1 q2 q3 q4 q5 q6 q7 : Vec Ideal S128x64 .f32) (r : Fin 1024) (j : Fin 256) :
    k0_pay47 β v129 q0 q1 q2 q3 q4 q5 q6 q7 (ix2 r j)
      = (∑ d : Fin 64, k0_pay46 q0 q1 q2 q3 q4 q5 q6 q7 (ix2 r d) * v129 (ix2 j d)) * c8 + β (ix2 r j) := by
  unfold k0_pay47 c8
  pointwise []

theorem sink1_apply (r : Fin 1024) : k0_pay49 σ (ix2 r 0) = σ (ix2 0 ⟨r.val / 128 + 8, by omega⟩) := by
  unfold k0_pay49 k0_pay48
  pointwise []
  exact (Finset.sum_congr rfl fun x _ => lane_select r x 8 (by omega) _ _).trans (sum_lane 8 (by omega) r _)

theorem top1_apply (q0 q1 q2 q3 q4 q5 q6 q7 : Vec Ideal S128x64 .f32) (r : Fin 1024) :
    k0_pay50 β v129 q0 q1 q2 q3 q4 q5 q6 q7 (ix2 r 0) = rTop fun j => k0_pay47 β v129 q0 q1 q2 q3 q4 q5 q6 q7 (ix2 r j) := by
  unfold k0_pay50 rTop
  pointwise []
  rw [bits_bot]

include h

theorem p1_apply (r : Fin 1024) (j : Fin 256) :
    k0_pay52 v147 v160 v162 (ix2 r j) = rP (fun j => v147 (ix2 r j)) (v160 (ix2 r 0)) j := by
  unfold k0_pay52 k0_pay51 rP rM
  pointwise []
  rw [h]

theorem e1_apply (r : Fin 1024) : k0_pay53 v160 v162 (ix2 r 0) = rE (fun j => v147 (ix2 r j)) (v160 (ix2 r 0)) := by
  unfold k0_pay53 k0_pay51 rE rM
  pointwise []
  rw [h]

theorem den1_apply (r : Fin 1024) : k0_pay54 v147 v160 v162 (ix2 r 0) = rDen (fun j => v147 (ix2 r j)) (v160 (ix2 r 0)) := by
  unfold k0_pay54 rDen
  pointwise []
  simp only [p1_apply v147 v160 v162 h, e1_apply v147 v160 v162 h]

omit h in
theorem g1_apply (r : Fin 1024) (j : Fin 256) :
    k0_pay56 v132 d0 d1 d2 d3 d4 d5 d6 d7 (ix2 r j) = ∑ d : Fin 64, k0_pay55 d0 d1 d2 d3 d4 d5 d6 d7 (ix2 r d) * v132 (ix2 j d) := by
  unfold k0_pay56
  pointwise []

theorem dv1_apply (j : Fin 256) (d : Fin 64) :
    k0_pay57 v147 v160 v162 d0 d1 d2 d3 d4 d5 d6 d7 (ix2 j d)
      = ∑ r : Fin 1024, rProb (fun j => v147 (ix2 r j)) (v160 (ix2 r 0)) j * k0_pay55 d0 d1 d2 d3 d4 d5 d6 d7 (ix2 r d) := by
  unfold k0_pay57 rProb
  pointwise []
  simp only [p1_apply v147 v160 v162 h, den1_apply v147 v160 v162 h]

theorem dd1_apply (r : Fin 1024) :
    k0_pay58 v132 v147 v160 v162 d0 d1 d2 d3 d4 d5 d6 d7 (ix2 r 0)
      = rDd (fun j => v147 (ix2 r j)) (fun j => k0_pay56 v132 d0 d1 d2 d3 d4 d5 d6 d7 (ix2 r j)) (v160 (ix2 r 0)) := by
  unfold k0_pay58 rDd rInv
  pointwise []
  simp only [p1_apply v147 v160 v162 h, den1_apply v147 v160 v162 h, zero_sub]

theorem ds1_apply (r : Fin 1024) (j : Fin 256) :
    k0_pay61 (k0_pay52 v147 v160 v162) (k0_pay58 v132 v147 v160 v162 d0 d1 d2 d3 d4 d5 d6 d7)
        (k0_pay59 v132 v147 v160 v162 d0 d1 d2 d3 d4 d5 d6 d7) (ix2 r j)
      = rDs (fun j => v147 (ix2 r j)) (fun j => k0_pay56 v132 d0 d1 d2 d3 d4 d5 d6 d7 (ix2 r j)) (v160 (ix2 r 0)) j * c8 := by
  unfold k0_pay61 k0_pay59 rDs c8
  pointwise []
  simp only [p1_apply v147 v160 v162 h, den1_apply v147 v160 v162 h, dd1_apply v147 v132 v160 v162 h, Fin.sum_univ_one]

theorem dsk1_apply (l : Fin 128) :
    k0_pay60 k0_pay48 (k0_pay53 v160 v162) (k0_pay58 v132 v147 v160 v162 d0 d1 d2 d3 d4 d5 d6 d7) (ix2 0 l)
      = ∑ r : Fin 1024, if r.val / 128 + 8 = l.val then
          rSink (fun j => v147 (ix2 r j)) (fun j => k0_pay56 v132 d0 d1 d2 d3 d4 d5 d6 d7 (ix2 r j)) (v160 (ix2 r 0)) else 0 := by
  unfold k0_pay60 rSink k0_pay48
  pointwise []
  simp only [e1_apply v147 v160 v162 h, dd1_apply v147 v132 v160 v162 h, Fin.sum_univ_one]
  exact Finset.sum_congr rfl fun x _ => lane_select x l 8 (by omega) _ _

omit h in
theorem dq1_apply (v166 v198 v200) (r : Fin 1024) (d : Fin 64) :
    k0_pay62 v129 v166 v198 v200 (ix2 r d) = ∑ j : Fin 256, k0_pay61 v166 v198 v200 (ix2 r j) * v129 (ix2 j d) := by
  unfold k0_pay62
  pointwise []

omit h in
theorem dk1_apply (v166 v198 v200) (j : Fin 256) (d : Fin 64) :
    k0_pay63 v141 v166 v198 v200 (ix2 j d) = ∑ r : Fin 1024, k0_pay61 v166 v198 v200 (ix2 r j) * v141 (ix2 r d) := by
  unfold k0_pay63
  pointwise []

end half1

end Cert.KernelIdeal.Value
-- ==== Proof.KCore.lean ====
module

public import proofs.«01_k».proof.Proof.KHalf
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen

open Cert.Attn
/-! ## The stores' payloads of the two halves -/

/-- The sink of a row's head in the first and in the second group. -/
def sinkAt0 (σ : Vec Ideal S1x128 .f32) (r : Fin 1024) : EReal := σ (ix2 0 ⟨r.val / 128, by omega⟩)
def sinkAt1 (σ : Vec Ideal S1x128 .f32) (r : Fin 1024) : EReal := σ (ix2 0 ⟨r.val / 128 + 8, by omega⟩)

theorem sinkAt0_apply (σ : Vec Ideal S1x128 .f32) (r : Fin 1024) : k0_pay16 σ (ix2 r 0) = sinkAt0 σ r := sink0_apply σ r
theorem sinkAt1_apply (σ : Vec Ideal S1x128 .f32) (r : Fin 1024) : k0_pay49 σ (ix2 r 0) = sinkAt1 σ r := sink1_apply σ r

section cores

variable (σ : Vec Ideal S1x128 .f32) (β : FVec Ideal S1024x256 .f32)
  (a b e f q0 q1 q2 q3 q4 q5 q6 q7 d0 d1 d2 d3 d4 d5 d6 d7 : Vec Ideal S128x64 .f32)
  (Q DO : Fin 1024 → Fin 64 → EReal) (K V : Fin 256 → Fin 64 → EReal) (B : Fin 1024 → Fin 256 → EReal) (sk : Fin 1024 → EReal)
  (hQ : ∀ r d, k0_pay12 q0 q1 q2 q3 q4 q5 q6 q7 (ix2 r d) = Q r d) (hD : ∀ r d, k0_pay12 d0 d1 d2 d3 d4 d5 d6 d7 (ix2 r d) = DO r d)
  (hK : ∀ j d, k0_pay10 a b (ix2 j d) = K j d) (hV : ∀ j d, k0_pay10 e f (ix2 j d) = V j d)
  (hB : ∀ r j, β (ix2 r j) = B r j)

theorem pay11_eq : k0_pay11 (F := Ideal) = k0_pay10 := rfl
theorem pay23_eq : k0_pay23 (F := Ideal) = k0_pay12 := rfl
theorem pay44_eq : k0_pay44 (F := Ideal) = k0_pay10 := rfl
theorem pay45_eq : k0_pay45 (F := Ideal) = k0_pay10 := rfl
theorem pay46_eq : k0_pay46 (F := Ideal) = k0_pay12 := rfl
theorem pay55_eq : k0_pay55 (F := Ideal) = k0_pay12 := rfl

include hQ hK hB in
theorem hs0 (r : Fin 1024) : (fun j => k0_pay14 β (k0_pay13 a b q0 q1 q2 q3 q4 q5 q6 q7) (ix2 r j)) = hS Q K B r := by
  funext j; simp only [s0_apply, hQ, hK, hB, hS]

include hD hV in
theorem hg0 (r : Fin 1024) : (fun j => k0_pay24 (k0_pay11 e f) d0 d1 d2 d3 d4 d5 d6 d7 (ix2 r j)) = hG DO V r := by
  funext j; simp only [g0_apply, pay11_eq, pay23_eq, hD, hV, hG]

include hQ hK hB in
theorem hs1 (r : Fin 1024) : (fun j => k0_pay47 β (k0_pay44 a b) q0 q1 q2 q3 q4 q5 q6 q7 (ix2 r j)) = hS Q K B r := by
  funext j; simp only [s1_apply, pay44_eq, pay46_eq, hQ, hK, hB, hS]

include hD hV in
theorem hg1 (r : Fin 1024) : (fun j => k0_pay56 (k0_pay45 e f) d0 d1 d2 d3 d4 d5 d6 d7 (ix2 r j)) = hG DO V r := by
  funext j; simp only [g1_apply, pay45_eq, pay55_eq, hD, hV, hG]

section first

variable (hσ : ∀ r : Fin 1024, sinkAt0 σ r = sk r)

/-- What the first half stores into the queries' gradient, as a stack. -/
abbrev kDq0 : FVec Ideal S1024x64 .f32 :=
  k0_pay29 (k0_pay10 a b) (k0_pay11 e f) (k0_pay18 σ β (k0_pay13 a b q0 q1 q2 q3 q4 q5 q6 q7))
    (k0_pay20 σ β (k0_pay13 a b q0 q1 q2 q3 q4 q5 q6 q7)) (k0_pay22 σ β (k0_pay13 a b q0 q1 q2 q3 q4 q5 q6 q7)) d0 d1 d2 d3 d4 d5 d6 d7

abbrev kDk0 : FVec Ideal S256x64 .f32 :=
  k0_pay30 (k0_pay11 e f) (k0_pay12 q0 q1 q2 q3 q4 q5 q6 q7) (k0_pay18 σ β (k0_pay13 a b q0 q1 q2 q3 q4 q5 q6 q7))
    (k0_pay20 σ β (k0_pay13 a b q0 q1 q2 q3 q4 q5 q6 q7)) (k0_pay22 σ β (k0_pay13 a b q0 q1 q2 q3 q4 q5 q6 q7)) d0 d1 d2 d3 d4 d5 d6 d7

abbrev kDv0 : FVec Ideal S256x64 .f32 :=
  k0_pay25 (k0_pay21 σ β (k0_pay13 a b q0 q1 q2 q3 q4 q5 q6 q7)) d0 d1 d2 d3 d4 d5 d6 d7

abbrev kSk0 : FVec Ideal S1x128 .f32 :=
  k0_pay27 (k0_pay11 e f) k0_pay15 (k0_pay18 σ β (k0_pay13 a b q0 q1 q2 q3 q4 q5 q6 q7))
    (k0_pay19 σ β (k0_pay13 a b q0 q1 q2 q3 q4 q5 q6 q7)) (k0_pay22 σ β (k0_pay13 a b q0 q1 q2 q3 q4 q5 q6 q7)) d0 d1 d2 d3 d4 d5 d6 d7

include hQ hD hK hV hB hσ

theorem core_dq0 (r : Fin 1024) (d : Fin 64) :
    kDq0 σ β a b e f q0 q1 q2 q3 q4 q5 q6 q7 d0 d1 d2 d3 d4 d5 d6 d7 (ix2 r d) = hDq Q DO K V B sk r d := by
  rw [kDq0, dq0_apply]
  refine Finset.sum_congr rfl fun j _ => ?_
  rw [ds0_apply, hs0 β a b q0 q1 q2 q3 q4 q5 q6 q7 Q K B hQ hK hB, hg0 e f d0 d1 d2 d3 d4 d5 d6 d7 DO V hD hV, sinkAt0_apply, hσ, hK, hDs]

theorem core_dk0 (j : Fin 256) (d : Fin 64) :
    kDk0 σ β a b e f q0 q1 q2 q3 q4 q5 q6 q7 d0 d1 d2 d3 d4 d5 d6 d7 (ix2 j d) = hDk Q DO K V B sk j d := by
  rw [kDk0, dk0_apply]
  refine Finset.sum_congr rfl fun r _ => ?_
  rw [ds0_apply, hs0 β a b q0 q1 q2 q3 q4 q5 q6 q7 Q K B hQ hK hB, hg0 e f d0 d1 d2 d3 d4 d5 d6 d7 DO V hD hV, sinkAt0_apply, hσ, hQ, hDs]

omit hV in
theorem core_dv0 (j : Fin 256) (d : Fin 64) :
    kDv0 σ β a b q0 q1 q2 q3 q4 q5 q6 q7 d0 d1 d2 d3 d4 d5 d6 d7 (ix2 j d) = hDv Q DO K B sk j d := by
  rw [kDv0, dv0_apply]
  refine Finset.sum_congr rfl fun r _ => ?_
  rw [prob0_apply, hs0 β a b q0 q1 q2 q3 q4 q5 q6 q7 Q K B hQ hK hB, sinkAt0_apply, hσ, pay23_eq, hD]

theorem core_sk0 (l : Fin 128) :
    kSk0 σ β a b e f q0 q1 q2 q3 q4 q5 q6 q7 d0 d1 d2 d3 d4 d5 d6 d7 (ix2 0 l)
      = ∑ r : Fin 1024, if r.val / 128 + 0 = l.val then hSink Q DO K V B sk r else 0 := by
  rw [kSk0, dsk0_apply]
  refine Finset.sum_congr rfl fun r _ => ?_
  rw [hs0 β a b q0 q1 q2 q3 q4 q5 q6 q7 Q K B hQ hK hB, hg0 e f d0 d1 d2 d3 d4 d5 d6 d7 DO V hD hV, sinkAt0_apply, hσ, hSink, add_zero]

end first

section second

variable (hσ : ∀ r : Fin 1024, sinkAt1 σ r = sk r)

/-- The second half's scores. -/
abbrev kS1 : FVec Ideal S1024x256 .f32 := k0_pay47 β (k0_pay44 a b) q0 q1 q2 q3 q4 q5 q6 q7

abbrev kT1 : FVec Ideal S1024x1 .f32 := k0_pay50 β (k0_pay44 a b) q0 q1 q2 q3 q4 q5 q6 q7

abbrev kDd1 : FVec Ideal S1024x1 .f32 :=
  k0_pay58 (k0_pay45 e f) (kS1 β a b q0 q1 q2 q3 q4 q5 q6 q7) (k0_pay49 σ) (kT1 β a b q0 q1 q2 q3 q4 q5 q6 q7) d0 d1 d2 d3 d4 d5 d6 d7

abbrev kG1 : FVec Ideal S1024x256 .f32 :=
  k0_pay59 (k0_pay45 e f) (kS1 β a b q0 q1 q2 q3 q4 q5 q6 q7) (k0_pay49 σ) (kT1 β a b q0 q1 q2 q3 q4 q5 q6 q7) d0 d1 d2 d3 d4 d5 d6 d7

abbrev kP1 : FVec Ideal S1024x256 .f32 := k0_pay52 (kS1 β a b q0 q1 q2 q3 q4 q5 q6 q7) (k0_pay49 σ) (kT1 β a b q0 q1 q2 q3 q4 q5 q6 q7)

/-- What the second half stores into the queries' gradient, as a stack. -/
abbrev kDq1 : FVec Ideal S1024x64 .f32 :=
  k0_pay62 (k0_pay44 a b) (kP1 σ β a b q0 q1 q2 q3 q4 q5 q6 q7) (kDd1 σ β a b e f q0 q1 q2 q3 q4 q5 q6 q7 d0 d1 d2 d3 d4 d5 d6 d7)
    (kG1 σ β a b e f q0 q1 q2 q3 q4 q5 q6 q7 d0 d1 d2 d3 d4 d5 d6 d7)

abbrev kDk1 : FVec Ideal S256x64 .f32 :=
  k0_pay63 (k0_pay46 q0 q1 q2 q3 q4 q5 q6 q7) (kP1 σ β a b q0 q1 q2 q3 q4 q5 q6 q7) (kDd1 σ β a b e f q0 q1 q2 q3 q4 q5 q6 q7 d0 d1 d2 d3 d4 d5 d6 d7)
    (kG1 σ β a b e f q0 q1 q2 q3 q4 q5 q6 q7 d0 d1 d2 d3 d4 d5 d6 d7)

abbrev kDv1 : FVec Ideal S256x64 .f32 :=
  k0_pay57 (kS1 β a b q0 q1 q2 q3 q4 q5 q6 q7) (k0_pay49 σ) (kT1 β a b q0 q1 q2 q3 q4 q5 q6 q7) d0 d1 d2 d3 d4 d5 d6 d7

abbrev kSk1 : FVec Ideal S1x128 .f32 :=
  k0_pay60 k0_pay48 (k0_pay53 (k0_pay49 σ) (kT1 β a b q0 q1 q2 q3 q4 q5 q6 q7)) (kDd1 σ β a b e f q0 q1 q2 q3 q4 q5 q6 q7 d0 d1 d2 d3 d4 d5 d6 d7)

include hQ hD hK hV hB hσ

theorem core_ds1 (r : Fin 1024) (j : Fin 256) :
    k0_pay61 (kP1 σ β a b q0 q1 q2 q3 q4 q5 q6 q7) (kDd1 σ β a b e f q0 q1 q2 q3 q4 q5 q6 q7 d0 d1 d2 d3 d4 d5 d6 d7)
      (kG1 σ β a b e f q0 q1 q2 q3 q4 q5 q6 q7 d0 d1 d2 d3 d4 d5 d6 d7) (ix2 r j) = hDs Q DO K V B sk r j := by
  rw [kP1, kDd1, kG1, ds1_apply _ _ _ _ (top1_apply β _ q0 q1 q2 q3 q4 q5 q6 q7), hs1 β a b q0 q1 q2 q3 q4 q5 q6 q7 Q K B hQ hK hB,
    hg1 e f d0 d1 d2 d3 d4 d5 d6 d7 DO V hD hV, sinkAt1_apply, hσ, hDs]

theorem core_dq1 (r : Fin 1024) (d : Fin 64) :
    kDq1 σ β a b e f q0 q1 q2 q3 q4 q5 q6 q7 d0 d1 d2 d3 d4 d5 d6 d7 (ix2 r d) = hDq Q DO K V B sk r d := by
  rw [kDq1, dq1_apply]
  refine Finset.sum_congr rfl fun j _ => ?_
  rw [core_ds1 σ β a b e f q0 q1 q2 q3 q4 q5 q6 q7 d0 d1 d2 d3 d4 d5 d6 d7 Q DO K V B sk hQ hD hK hV hB hσ, pay44_eq, hK]

theorem core_dk1 (j : Fin 256) (d : Fin 64) :
    kDk1 σ β a b e f q0 q1 q2 q3 q4 q5 q6 q7 d0 d1 d2 d3 d4 d5 d6 d7 (ix2 j d) = hDk Q DO K V B sk j d := by
  rw [kDk1, dk1_apply]
  refine Finset.sum_congr rfl fun r _ => ?_
  rw [core_ds1 σ β a b e f q0 q1 q2 q3 q4 q5 q6 q7 d0 d1 d2 d3 d4 d5 d6 d7 Q DO K V B sk hQ hD hK hV hB hσ, pay46_eq, hQ]

omit hV in
theorem core_dv1 (j : Fin 256) (d : Fin 64) :
    kDv1 σ β a b q0 q1 q2 q3 q4 q5 q6 q7 d0 d1 d2 d3 d4 d5 d6 d7 (ix2 j d) = hDv Q DO K B sk j d := by
  rw [kDv1, dv1_apply _ _ _ (top1_apply β _ q0 q1 q2 q3 q4 q5 q6 q7)]
  refine Finset.sum_congr rfl fun r _ => ?_
  rw [hs1 β a b q0 q1 q2 q3 q4 q5 q6 q7 Q K B hQ hK hB, sinkAt1_apply, hσ, pay55_eq, hD]

theorem core_sk1 (l : Fin 128) :
    kSk1 σ β a b e f q0 q1 q2 q3 q4 q5 q6 q7 d0 d1 d2 d3 d4 d5 d6 d7 (ix2 0 l)
      = ∑ r : Fin 1024, if r.val / 128 + 8 = l.val then hSink Q DO K V B sk r else 0 := by
  rw [kSk1, kDd1, dsk1_apply _ _ _ _ (top1_apply β _ q0 q1 q2 q3 q4 q5 q6 q7)]
  refine Finset.sum_congr rfl fun r _ => ?_
  rw [hs1 β a b q0 q1 q2 q3 q4 q5 q6 q7 Q K B hQ hK hB, hg1 e f d0 d1 d2 d3 d4 d5 d6 d7 DO V hD hV, sinkAt1_apply, hσ, hSink]

end second

end cores

end Cert.KernelIdeal.Value
-- ==== Proof.KTiles.lean ====
module

public import proofs.«01_k».proof.Proof.KCore
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen

theorem ix2_congr {m n : ℕ} {a a' : Fin m} {b b' : Fin n} (ha : a.val = a'.val) (hb : b.val = b'.val) : ix2 a b = ix2 a' b' := by
  rw [Fin.ext ha, Fin.ext hb]

/-- Eight tiles stacked, read at a row of the stack. -/
theorem stack_of (q0 q1 q2 q3 q4 q5 q6 q7 : Vec Ideal S128x64 .f32) (X : FVec Ideal S128x1024 .f32) (o : ℕ) (ho : o ≤ 512)
    (h0 : ∀ i d, q0 (ix2 i d) = X (ix2 i ⟨o + 0 + d.val, by omega⟩)) (h1 : ∀ i d, q1 (ix2 i d) = X (ix2 i ⟨o + 64 + d.val, by omega⟩))
    (h2 : ∀ i d, q2 (ix2 i d) = X (ix2 i ⟨o + 128 + d.val, by omega⟩)) (h3 : ∀ i d, q3 (ix2 i d) = X (ix2 i ⟨o + 192 + d.val, by omega⟩))
    (h4 : ∀ i d, q4 (ix2 i d) = X (ix2 i ⟨o + 256 + d.val, by omega⟩)) (h5 : ∀ i d, q5 (ix2 i d) = X (ix2 i ⟨o + 320 + d.val, by omega⟩))
    (h6 : ∀ i d, q6 (ix2 i d) = X (ix2 i ⟨o + 384 + d.val, by omega⟩)) (h7 : ∀ i d, q7 (ix2 i d) = X (ix2 i ⟨o + 448 + d.val, by omega⟩))
    (r : Fin 1024) (d : Fin 64) :
    k0_pay12 q0 q1 q2 q3 q4 q5 q6 q7 (ix2 r d) = X (ix2 ⟨r.val % 128, by omega⟩ ⟨o + 64 * (r.val / 128) + d.val, by omega⟩) := by
  unfold k0_pay12
  pointwise []
  simp only [h0, h1, h2, h3, h4, h5, h6, h7]
  split_ifs <;> exact congrArg X (ix2_congr (by dsimp only; omega) (by dsimp only; omega))

theorem stack0_apply (X : FVec Ideal S128x1024 .f32) (h0 h1 h2 h3 h4 h5 h6 h7) (r : Fin 1024) (d : Fin 64) :
    k0_pay12 (extractStridedSlice S128x64 ![0, 0] X h0) (extractStridedSlice S128x64 ![0, 64] X h1)
        (extractStridedSlice S128x64 ![0, 128] X h2) (extractStridedSlice S128x64 ![0, 192] X h3)
        (extractStridedSlice S128x64 ![0, 256] X h4) (extractStridedSlice S128x64 ![0, 320] X h5)
        (extractStridedSlice S128x64 ![0, 384] X h6) (extractStridedSlice S128x64 ![0, 448] X h7) (ix2 r d)
      = X (ix2 ⟨r.val % 128, by omega⟩ ⟨0 + 64 * (r.val / 128) + d.val, by omega⟩) := by
  refine stack_of _ _ _ _ _ _ _ _ X 0 (by omega) ?_ ?_ ?_ ?_ ?_ ?_ ?_ ?_ r d <;> (intro i d; pointwise [])

theorem stack1_apply (X : FVec Ideal S128x1024 .f32) (h0 h1 h2 h3 h4 h5 h6 h7) (r : Fin 1024) (d : Fin 64) :
    k0_pay12 (extractStridedSlice S128x64 ![0, 512] X h0) (extractStridedSlice S128x64 ![0, 576] X h1)
        (extractStridedSlice S128x64 ![0, 640] X h2) (extractStridedSlice S128x64 ![0, 704] X h3)
        (extractStridedSlice S128x64 ![0, 768] X h4) (extractStridedSlice S128x64 ![0, 832] X h5)
        (extractStridedSlice S128x64 ![0, 896] X h6) (extractStridedSlice S128x64 ![0, 960] X h7) (ix2 r d)
      = X (ix2 ⟨r.val % 128, by omega⟩ ⟨512 + 64 * (r.val / 128) + d.val, by omega⟩) := by
  refine stack_of _ _ _ _ _ _ _ _ X 512 (by omega) ?_ ?_ ?_ ?_ ?_ ?_ ?_ ?_ r d <;> (intro i d; pointwise [])

/-- Two blocks of keys one above the other, at the columns of one head. -/
theorem band0_apply (X Y : FVec Ideal S128x128 .f32) (h0 h1) (j : Fin 256) (d : Fin 64) :
    k0_pay10 (extractStridedSlice S128x64 ![0, 0] X h0) (extractStridedSlice S128x64 ![0, 0] Y h1) (ix2 j d)
      = if h : j.val < 128 then X (ix2 ⟨j.val, h⟩ ⟨64 * 0 + d.val, by omega⟩) else Y (ix2 ⟨j.val - 128, by omega⟩ ⟨64 * 0 + d.val, by omega⟩) := by
  unfold k0_pay10
  pointwise []

theorem band1_apply (X Y : FVec Ideal S128x128 .f32) (h0 h1) (j : Fin 256) (d : Fin 64) :
    k0_pay10 (extractStridedSlice S128x64 ![0, 64] X h0) (extractStridedSlice S128x64 ![0, 64] Y h1) (ix2 j d)
      = if h : j.val < 128 then X (ix2 ⟨j.val, h⟩ ⟨64 * 1 + d.val, by omega⟩) else Y (ix2 ⟨j.val - 128, by omega⟩ ⟨64 * 1 + d.val, by omega⟩) := by
  unfold k0_pay10
  pointwise []

/-! ## The blocks of a grid point -/

theorem idx_val : ∀ t : Fin cfg0.N, win0_0.index t = ![t.val, 0] ∧ win0_1.index t = ![t.val - 1, 0] ∧ win0_2.index t = ![t.val, 0]
    ∧ win0_3.index t = ![t.val - 1, 58] ∧ win0_4.index t = ![t.val, 58] ∧ win0_5.index t = ![0, 0] ∧ win0_6.index t = ![min t.val 1, 0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![0, 0] :=
  (by decide +kernel : ∀ t : Fin grid0.N, _)

variable (m : (ℓ : Loc nD τ sig) → Buf (Elt Ideal) ℓ)

theorem t_lt (t : Fin cfg0.N) : t.val < 32 := t.isLt

theorem blk0 (c : Dev nD) (t : Fin cfg0.N) (i : Fin 128) (e : Fin 1024) :
    (iblk m c 0 t : FVec Ideal S128x1024 .f32) (ix2 i e) = (m ((c : Thread nD τ).loc main_arg0) : FVec Ideal S4096x1024 .f32) (ix2 ⟨128 * t.val + i.val, by have := t_lt t; omega⟩ e) := by
  blk_point [iblk, V, idx_val t]

theorem blk7 (c : Dev nD) (t : Fin cfg0.N) (i : Fin 128) (e : Fin 1024) :
    (iblk m c 7 t : FVec Ideal S128x1024 .f32) (ix2 i e) = (m ((c : Thread nD τ).loc main_arg4) : FVec Ideal S4096x1024 .f32) (ix2 ⟨128 * t.val + i.val, by have := t_lt t; omega⟩ e) := by
  blk_point [iblk, V, idx_val t]

theorem blk1 (c : Dev nD) (t : Fin cfg0.N) (i : Fin 128) (e : Fin 128) :
    (iblk m c 1 t : FVec Ideal S128x128 .f32) (ix2 i e) = (m ((c : Thread nD τ).loc main_arg1) : FVec Ideal S4096x128 .f32) (ix2 ⟨128 * (t.val - 1) + i.val, by have := t_lt t; omega⟩ e) := by
  blk_point [iblk, V, idx_val t]

theorem blk2 (c : Dev nD) (t : Fin cfg0.N) (i : Fin 128) (e : Fin 128) :
    (iblk m c 2 t : FVec Ideal S128x128 .f32) (ix2 i e) = (m ((c : Thread nD τ).loc main_arg1) : FVec Ideal S4096x128 .f32) (ix2 ⟨128 * t.val + i.val, by have := t_lt t; omega⟩ e) := by
  blk_point [iblk, V, idx_val t]

theorem blk3 (c : Dev nD) (t : Fin cfg0.N) (i : Fin 128) (e : Fin 128) :
    (iblk m c 3 t : FVec Ideal S128x128 .f32) (ix2 i e) = (m ((c : Thread nD τ).loc main_arg2) : FVec Ideal S4096x7680 .f32) (ix2 ⟨128 * (t.val - 1) + i.val, by have := t_lt t; omega⟩ ⟨7424 + e.val, by omega⟩) := by
  blk_point [iblk, V, idx_val t]

theorem blk4 (c : Dev nD) (t : Fin cfg0.N) (i : Fin 128) (e : Fin 128) :
    (iblk m c 4 t : FVec Ideal S128x128 .f32) (ix2 i e) = (m ((c : Thread nD τ).loc main_arg2) : FVec Ideal S4096x7680 .f32) (ix2 ⟨128 * t.val + i.val, by have := t_lt t; omega⟩ ⟨7424 + e.val, by omega⟩) := by
  blk_point [iblk, V, idx_val t]

theorem blk5 (c : Dev nD) (t : Fin cfg0.N) (e : Fin 128) :
    (iblk m c 5 t : FVec Ideal S1x128 .f32) (ix2 0 e) = (m ((c : Thread nD τ).loc main_arg3) : FVec Ideal S1x128 .f32) (ix2 0 e) := by
  blk_point [iblk, V, idx_val t]

end Cert.KernelIdeal.Value
-- ==== Proof.KBias.lean ====
module

public import proofs.«01_k».proof.Proof.KTiles
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen

variable (m : (ℓ : Loc nD τ sig) → Buf (Elt Ideal) ℓ)

/-- The row's number modulo 128, as the integer words compute it. -/
theorem word_mod : ∀ r : Fin 1024, Scalar.select
      (IntOp.andi
        (IntOp.cmpi CmpIPredicate.ne
          (IntOp.cmpi CmpIPredicate.slt
            (IntOp.remsi ArithUnit.host (BitVec.ofNat 32 r.val) (Scalar.select (IntOp.cmpi CmpIPredicate.eq 128#32 0#32) 1#32 128#32)) 0#32)
          (IntOp.cmpi CmpIPredicate.slt (Scalar.select (IntOp.cmpi CmpIPredicate.eq 128#32 0#32) 1#32 128#32) 0#32))
        (IntOp.cmpi CmpIPredicate.ne
          (IntOp.remsi ArithUnit.host (BitVec.ofNat 32 r.val) (Scalar.select (IntOp.cmpi CmpIPredicate.eq 128#32 0#32) 1#32 128#32)) 0#32))
      (IntOp.addi (IntOp.remsi ArithUnit.host (BitVec.ofNat 32 r.val) (Scalar.select (IntOp.cmpi CmpIPredicate.eq 128#32 0#32) 1#32 128#32))
        (Scalar.select (IntOp.cmpi CmpIPredicate.eq 128#32 0#32) 1#32 128#32))
      (IntOp.remsi ArithUnit.host (BitVec.ofNat 32 r.val) (Scalar.select (IntOp.cmpi CmpIPredicate.eq 128#32 0#32) 1#32 128#32))
    = BitVec.ofNat 32 (r.val % 128) := by
  decide +kernel

/-- The window of keys a query sees, as the words compute it. -/
theorem word_win : ∀ (i : Fin 128) (j : Fin 256),
    IntOp.andi (IntOp.cmpi CmpIPredicate.sge (IntOp.subi (IntOp.addi (BitVec.ofNat 32 i.val) 128#32) (BitVec.ofNat 32 j.val)) 0#32)
      (IntOp.cmpi CmpIPredicate.slt (IntOp.subi (IntOp.addi (BitVec.ofNat 32 i.val) 128#32) (BitVec.ofNat 32 j.val)) 128#32)
    = if j.val ≤ i.val + 128 ∧ i.val < j.val then 1#1 else 0#1 := by
  decide +kernel

theorem word_ge : ∀ j : Fin 256, IntOp.cmpi CmpIPredicate.sge (BitVec.ofNat 32 j.val) 128#32 = if 128 ≤ j.val then 1#1 else 0#1 := by
  decide +kernel

theorem select_and (A B : Prop) [Decidable A] [Decidable B] :
    Scalar.select (IntOp.andi (if A then 1#1 else 0#1) (if B then 1#1 else 0#1)) (0 : EReal) ⊥ = if A ∧ B then 0 else ⊥ := by
  by_cases hA : A <;> by_cases hB : B <;> simp [hA, hB, Scalar.select, IntOp.andi]

theorem select_one (A : Prop) [Decidable A] : Scalar.select (if A then 1#1 else 0#1) (0 : EReal) ⊥ = if A then 0 else ⊥ := by
  by_cases hA : A <;> simp [hA, Scalar.select]

set_option maxHeartbeats 2000000 in
/-- The additive mask the host prepares: zero on the window of keys inside the sequence, `⊥` elsewhere. -/
theorem blk6 (c : Dev nD) (t : Fin cfg0.N) (r : Fin 1024) (j : Fin 256) :
    k0_pay8 (F := Ideal) (iblk m c 6 t) (ix2 r j) = if (j.val ≤ r.val % 128 + 128 ∧ r.val % 128 < j.val ∧ 128 ≤ 128 * t.val + j.val) then (0 : EReal) else ⊥ := by
  unfold k0_pay8
  pointwise []
  blk_simp [iblk, idx_val t]
  simp only [V, hostOps0, hostOps0_1, hostOps0_2, hostOps0_3, hostOps0_4, hostOps0_5, hostOps0_6, List.flatten_cons, List.flatten_nil, List.cons_append, List.nil_append, List.append_nil]
  entry_read
  simp -implicitDefEqProofs only [StableHlo.TRef.toBuf, StableHlo.TRef.ofBuf, cast_cast, cast_eq, id_eq]
  pointwise []
  blk_simp [idx_val t]
  have hw := word_win ⟨r.val % 128, by omega⟩ j
  dsimp only at hw
  simp only [word_mod, hw, word_ge, Cert.Attn.bits_bot, select_and, select_one]
  have := t_lt t
  split_ifs <;> first | rfl | (exfalso; omega)

end Cert.KernelIdeal.Value
-- ==== Proof.Spec.lean ====
module

public import proofs.«01_k».proof.Proof.Rows

@[expose] public section

set_option maxRecDepth 16384

noncomputable section

open scoped BigOperators

namespace Cert.Attn

/-! The gradient of the attention over the arrays: a block of 128 queries against the band of its own and the previous 128 keys, one group of
eight heads for each of the two key heads. -/

/-- The queries (or the output's cotangent) of block `n` and key head `h`: row `128 g + i` is query `i` of the group's head `g`. -/
def bQ (q : Fin 4096 → Fin 1024 → EReal) (n : Fin 32) (h : Fin 2) (r : Fin 1024) (d : Fin 64) : EReal :=
  q ⟨128 * n.val + r.val % 128, by omega⟩ ⟨512 * h.val + 64 * (r.val / 128) + d.val, by omega⟩

/-- The band of keys of block `n`: zeros before the sequence's first key. -/
def bK (k : Fin 4096 → Fin 128 → EReal) (n : Fin 32) (h : Fin 2) (j : Fin 256) (d : Fin 64) : EReal :=
  if hj : 128 ≤ 128 * n.val + j.val then k ⟨128 * n.val + j.val - 128, by omega⟩ ⟨64 * h.val + d.val, by omega⟩ else 0

/-- The band of keys with the first block in the place of the missing one. -/
def bKc (k : Fin 4096 → Fin 128 → EReal) (n : Fin 32) (h : Fin 2) (j : Fin 256) (d : Fin 64) : EReal :=
  if hj : j.val < 128 then k ⟨128 * (n.val - 1) + j.val, by omega⟩ ⟨64 * h.val + d.val, by omega⟩
  else k ⟨128 * n.val + (j.val - 128), by omega⟩ ⟨64 * h.val + d.val, by omega⟩

/-- The additive mask: the 128 keys up to the query's own, inside the sequence. -/
def bB (n : Fin 32) (r : Fin 1024) (j : Fin 256) : EReal :=
  if j.val ≤ r.val % 128 + 128 ∧ r.val % 128 < j.val ∧ 128 ≤ 128 * n.val + j.val then 0 else ⊥

def bS (s : Fin 128 → EReal) (h : Fin 2) (r : Fin 1024) : EReal := s ⟨8 * h.val + r.val / 128, by omega⟩

theorem band_same (k v : Fin 4096 → Fin 128 → EReal) (n : Fin 32) (h : Fin 2) (r : Fin 1024) (j : Fin 256) :
    bB n r j = ⊥ ∨ ((∀ d, bKc k n h j d = bK k n h j d) ∧ ∀ d, bKc v n h j d = bK v n h j d) := by
  by_cases hj : 128 ≤ 128 * n.val + j.val
  · refine Or.inr ⟨fun d => ?_, fun d => ?_⟩
    all_goals
      rw [bKc, bK, dif_pos hj]
      split_ifs with h1
      · congr 2; omega
      · congr 2; omega
  · exact Or.inl (by rw [bB, if_neg (fun hh => hj hh.2.2)])

section outputs

variable (q : Fin 4096 → Fin 1024 → EReal) (k v : Fin 4096 → Fin 128 → EReal) (s : Fin 128 → EReal) (g : Fin 4096 → Fin 1024 → EReal)

/-- The gradient in the queries. -/
def sDq (i : Fin 4096) (e : Fin 1024) : EReal :=
  let n : Fin 32 := ⟨i.val / 128, by omega⟩
  let h : Fin 2 := ⟨e.val / 512, by omega⟩
  hDq (bQ q n h) (bQ g n h) (bK k n h) (bK v n h) (bB n) (bS s h) ⟨128 * (e.val / 64 % 8) + i.val % 128, by omega⟩ ⟨e.val % 64, by omega⟩

/-- The gradient in the keys of the band: `o` is 0 for the previous block's rows, 128 for the block's own. -/
def sDk (o : Fin 129) (i : Fin 4096) (e : Fin 128) : EReal :=
  let n : Fin 32 := ⟨i.val / 128, by omega⟩
  let h : Fin 2 := ⟨e.val / 64, by omega⟩
  hDk (bQ q n h) (bQ g n h) (bK k n h) (bK v n h) (bB n) (bS s h) ⟨o.val + i.val % 128, by omega⟩ ⟨e.val % 64, by omega⟩

/-- The gradient in the values of the band. -/
def sDv (o : Fin 129) (i : Fin 4096) (e : Fin 128) : EReal :=
  let n : Fin 32 := ⟨i.val / 128, by omega⟩
  let h : Fin 2 := ⟨e.val / 64, by omega⟩
  hDv (bQ q n h) (bQ g n h) (bK k n h) (bB n) (bS s h) ⟨o.val + i.val % 128, by omega⟩ ⟨e.val % 64, by omega⟩

theorem sDq_at (n : Fin 32) (h : Fin 2) (r : Fin 1024) (d : Fin 64) (i : Fin 4096) (e : Fin 1024) (hn : i.val / 128 = n.val) (hh : e.val / 512 = h.val)
    (hr : 128 * (e.val / 64 % 8) + i.val % 128 = r.val) (hd : e.val % 64 = d.val) :
    hDq (bQ q n h) (bQ g n h) (bK k n h) (bK v n h) (bB n) (bS s h) r d = sDq q k v s g i e := by
  obtain ⟨n, _⟩ := n
  obtain ⟨h, _⟩ := h
  obtain ⟨r, _⟩ := r
  obtain ⟨d, _⟩ := d
  dsimp only at hn hh hr hd
  subst hn hh hr hd
  rfl

theorem sDk_at (o : Fin 129) (n : Fin 32) (h : Fin 2) (r : Fin 256) (d : Fin 64) (i : Fin 4096) (e : Fin 128) (hn : i.val / 128 = n.val) (hh : e.val / 64 = h.val)
    (hr : o.val + i.val % 128 = r.val) (hd : e.val % 64 = d.val) :
    hDk (bQ q n h) (bQ g n h) (bK k n h) (bK v n h) (bB n) (bS s h) r d = sDk q k v s g o i e := by
  obtain ⟨n, _⟩ := n
  obtain ⟨h, _⟩ := h
  obtain ⟨r, _⟩ := r
  obtain ⟨d, _⟩ := d
  dsimp only at hn hh hr hd
  subst hn hh hr hd
  rfl

theorem sDv_at (o : Fin 129) (n : Fin 32) (h : Fin 2) (r : Fin 256) (d : Fin 64) (i : Fin 4096) (e : Fin 128) (hn : i.val / 128 = n.val) (hh : e.val / 64 = h.val)
    (hr : o.val + i.val % 128 = r.val) (hd : e.val % 64 = d.val) :
    hDv (bQ q n h) (bQ g n h) (bK k n h) (bB n) (bS s h) r d = sDv q k s g o i e := by
  obtain ⟨n, _⟩ := n
  obtain ⟨h, _⟩ := h
  obtain ⟨r, _⟩ := r
  obtain ⟨d, _⟩ := d
  dsimp only at hn hh hr hd
  subst hn hh hr hd
  rfl

/-- What block `n` adds to the gradient in the sinks. -/
def sSinkAt (n : Fin 32) (l : Fin 128) : EReal :=
  (∑ r : Fin 1024, if r.val / 128 + 0 = l.val then hSink (bQ q n 0) (bQ g n 0) (bK k n 0) (bK v n 0) (bB n) (bS s 0) r else 0)
    + ∑ r : Fin 1024, if r.val / 128 + 8 = l.val then hSink (bQ q n 1) (bQ g n 1) (bK k n 1) (bK v n 1) (bB n) (bS s 1) r else 0

/-- The gradient in the sinks. -/
def sSink (l : Fin 128) : EReal := ∑ n : Fin 32, sSinkAt q k v s g n l

end outputs

end Cert.Attn
-- ==== Proof.KRead.lean ====
module

public import proofs.«01_k».proof.Proof.KTiles
public import proofs.«01_k».proof.Proof.KBias
public import proofs.«01_k».proof.Proof.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen Cert.Attn

variable (m : (ℓ : Loc nD τ sig) → Buf (Elt Ideal) ℓ)

/-! ## The arrays as functions -/

def aQ (c : Dev nD) (i : Fin 4096) (e : Fin 1024) : EReal := (m ((c : Thread nD τ).loc main_arg0) : FVec Ideal S4096x1024 .f32) (ix2 i e)
def aK (c : Dev nD) (i : Fin 4096) (e : Fin 128) : EReal := (m ((c : Thread nD τ).loc main_arg1) : FVec Ideal S4096x128 .f32) (ix2 i e)
def aV (c : Dev nD) (i : Fin 4096) (e : Fin 128) : EReal := (m ((c : Thread nD τ).loc main_arg2) : FVec Ideal S4096x7680 .f32) (ix2 i ⟨7424 + e.val, by omega⟩)
def aS (c : Dev nD) (e : Fin 128) : EReal := (m ((c : Thread nD τ).loc main_arg3) : FVec Ideal S1x128 .f32) (ix2 0 e)
def aG (c : Dev nD) (i : Fin 4096) (e : Fin 1024) : EReal := (m ((c : Thread nD τ).loc main_arg4) : FVec Ideal S4096x1024 .f32) (ix2 i e)

/-- The block of a grid point. -/
def tn (t : Fin cfg0.N) : Fin 32 := ⟨t.val, t_lt t⟩

/-! ## What a grid point's blocks hold -/

section reads

variable (c : Dev nD) (t : Fin cfg0.N)

theorem rd_bias (r : Fin 1024) (j : Fin 256) : k0_pay8 (F := Ideal) (iblk m c 6 t) (ix2 r j) = bB (tn t) r j :=
  blk6 m c t r j

theorem rd_q0 (h0 : S128x1024.Slices ![0, 0] S128x64) (h64 : S128x1024.Slices ![0, 64] S128x64) (h128 : S128x1024.Slices ![0, 128] S128x64) (h192 : S128x1024.Slices ![0, 192] S128x64) (h256 : S128x1024.Slices ![0, 256] S128x64) (h320 : S128x1024.Slices ![0, 320] S128x64) (h384 : S128x1024.Slices ![0, 384] S128x64) (h448 : S128x1024.Slices ![0, 448] S128x64) (r : Fin 1024) (d : Fin 64) :
    k0_pay12 (extractStridedSlice S128x64 ![0, 0] (iblk m c 0 t) h0) (extractStridedSlice S128x64 ![0, 64] (iblk m c 0 t) h64) (extractStridedSlice S128x64 ![0, 128] (iblk m c 0 t) h128) (extractStridedSlice S128x64 ![0, 192] (iblk m c 0 t) h192) (extractStridedSlice S128x64 ![0, 256] (iblk m c 0 t) h256) (extractStridedSlice S128x64 ![0, 320] (iblk m c 0 t) h320) (extractStridedSlice S128x64 ![0, 384] (iblk m c 0 t) h384) (extractStridedSlice S128x64 ![0, 448] (iblk m c 0 t) h448) (ix2 r d) = bQ (aQ m c) (tn t) 0 r d := by
  rw [stack0_apply (iblk m c 0 t) h0 h64 h128 h192 h256 h320 h384 h448, blk0]
  exact congrArg _ (ix2_congr rfl (by simp))

theorem rd_g0 (h0 : S128x1024.Slices ![0, 0] S128x64) (h64 : S128x1024.Slices ![0, 64] S128x64) (h128 : S128x1024.Slices ![0, 128] S128x64) (h192 : S128x1024.Slices ![0, 192] S128x64) (h256 : S128x1024.Slices ![0, 256] S128x64) (h320 : S128x1024.Slices ![0, 320] S128x64) (h384 : S128x1024.Slices ![0, 384] S128x64) (h448 : S128x1024.Slices ![0, 448] S128x64) (r : Fin 1024) (d : Fin 64) :
    k0_pay12 (extractStridedSlice S128x64 ![0, 0] (iblk m c 7 t) h0) (extractStridedSlice S128x64 ![0, 64] (iblk m c 7 t) h64) (extractStridedSlice S128x64 ![0, 128] (iblk m c 7 t) h128) (extractStridedSlice S128x64 ![0, 192] (iblk m c 7 t) h192) (extractStridedSlice S128x64 ![0, 256] (iblk m c 7 t) h256) (extractStridedSlice S128x64 ![0, 320] (iblk m c 7 t) h320) (extractStridedSlice S128x64 ![0, 384] (iblk m c 7 t) h384) (extractStridedSlice S128x64 ![0, 448] (iblk m c 7 t) h448) (ix2 r d) = bQ (aG m c) (tn t) 0 r d := by
  rw [stack0_apply (iblk m c 7 t) h0 h64 h128 h192 h256 h320 h384 h448, blk7]
  exact congrArg _ (ix2_congr rfl (by simp))

theorem rd_k0 (p0 p1 : S128x128.Slices ![0, 0] S128x64) (j : Fin 256) (d : Fin 64) :
    k0_pay10 (extractStridedSlice S128x64 ![0, 0] (iblk m c 1 t) p0) (extractStridedSlice S128x64 ![0, 0] (iblk m c 2 t) p1) (ix2 j d)
      = bKc (aK m c) (tn t) 0 j d := by
  rw [band0_apply (iblk m c 1 t) (iblk m c 2 t) p0 p1, bKc]
  simp only [blk1, blk2]
  rfl

theorem rd_v0 (p0 p1 : S128x128.Slices ![0, 0] S128x64) (j : Fin 256) (d : Fin 64) :
    k0_pay10 (extractStridedSlice S128x64 ![0, 0] (iblk m c 3 t) p0) (extractStridedSlice S128x64 ![0, 0] (iblk m c 4 t) p1) (ix2 j d)
      = bKc (aV m c) (tn t) 0 j d := by
  rw [band0_apply (iblk m c 3 t) (iblk m c 4 t) p0 p1, bKc]
  simp only [blk3, blk4]
  rfl

theorem rd_s0 (r : Fin 1024) : sinkAt0 (iblk m c 5 t) r = bS (aS m c) 0 r := by
  rw [sinkAt0, blk5]
  exact congrArg _ (ix2_congr rfl (by simp))

theorem rd_q1 (h512 : S128x1024.Slices ![0, 512] S128x64) (h576 : S128x1024.Slices ![0, 576] S128x64) (h640 : S128x1024.Slices ![0, 640] S128x64) (h704 : S128x1024.Slices ![0, 704] S128x64) (h768 : S128x1024.Slices ![0, 768] S128x64) (h832 : S128x1024.Slices ![0, 832] S128x64) (h896 : S128x1024.Slices ![0, 896] S128x64) (h960 : S128x1024.Slices ![0, 960] S128x64) (r : Fin 1024) (d : Fin 64) :
    k0_pay12 (extractStridedSlice S128x64 ![0, 512] (iblk m c 0 t) h512) (extractStridedSlice S128x64 ![0, 576] (iblk m c 0 t) h576) (extractStridedSlice S128x64 ![0, 640] (iblk m c 0 t) h640) (extractStridedSlice S128x64 ![0, 704] (iblk m c 0 t) h704) (extractStridedSlice S128x64 ![0, 768] (iblk m c 0 t) h768) (extractStridedSlice S128x64 ![0, 832] (iblk m c 0 t) h832) (extractStridedSlice S128x64 ![0, 896] (iblk m c 0 t) h896) (extractStridedSlice S128x64 ![0, 960] (iblk m c 0 t) h960) (ix2 r d) = bQ (aQ m c) (tn t) 1 r d := by
  rw [stack1_apply (iblk m c 0 t) h512 h576 h640 h704 h768 h832 h896 h960, blk0]
  exact congrArg _ (ix2_congr rfl (by simp))

theorem rd_g1 (h512 : S128x1024.Slices ![0, 512] S128x64) (h576 : S128x1024.Slices ![0, 576] S128x64) (h640 : S128x1024.Slices ![0, 640] S128x64) (h704 : S128x1024.Slices ![0, 704] S128x64) (h768 : S128x1024.Slices ![0, 768] S128x64) (h832 : S128x1024.Slices ![0, 832] S128x64) (h896 : S128x1024.Slices ![0, 896] S128x64) (h960 : S128x1024.Slices ![0, 960] S128x64) (r : Fin 1024) (d : Fin 64) :
    k0_pay12 (extractStridedSlice S128x64 ![0, 512] (iblk m c 7 t) h512) (extractStridedSlice S128x64 ![0, 576] (iblk m c 7 t) h576) (extractStridedSlice S128x64 ![0, 640] (iblk m c 7 t) h640) (extractStridedSlice S128x64 ![0, 704] (iblk m c 7 t) h704) (extractStridedSlice S128x64 ![0, 768] (iblk m c 7 t) h768) (extractStridedSlice S128x64 ![0, 832] (iblk m c 7 t) h832) (extractStridedSlice S128x64 ![0, 896] (iblk m c 7 t) h896) (extractStridedSlice S128x64 ![0, 960] (iblk m c 7 t) h960) (ix2 r d) = bQ (aG m c) (tn t) 1 r d := by
  rw [stack1_apply (iblk m c 7 t) h512 h576 h640 h704 h768 h832 h896 h960, blk7]
  exact congrArg _ (ix2_congr rfl (by simp))

theorem rd_k1 (p0 p1 : S128x128.Slices ![0, 64] S128x64) (j : Fin 256) (d : Fin 64) :
    k0_pay10 (extractStridedSlice S128x64 ![0, 64] (iblk m c 1 t) p0) (extractStridedSlice S128x64 ![0, 64] (iblk m c 2 t) p1) (ix2 j d)
      = bKc (aK m c) (tn t) 1 j d := by
  rw [band1_apply (iblk m c 1 t) (iblk m c 2 t) p0 p1, bKc]
  simp only [blk1, blk2]
  rfl

theorem rd_v1 (p0 p1 : S128x128.Slices ![0, 64] S128x64) (j : Fin 256) (d : Fin 64) :
    k0_pay10 (extractStridedSlice S128x64 ![0, 64] (iblk m c 3 t) p0) (extractStridedSlice S128x64 ![0, 64] (iblk m c 4 t) p1) (ix2 j d)
      = bKc (aV m c) (tn t) 1 j d := by
  rw [band1_apply (iblk m c 3 t) (iblk m c 4 t) p0 p1, bKc]
  simp only [blk3, blk4]
  rfl

theorem rd_s1 (r : Fin 1024) : sinkAt1 (iblk m c 5 t) r = bS (aS m c) 1 r := by
  rw [sinkAt1, blk5]
  exact congrArg _ (ix2_congr rfl (by simp; omega))

/-! ## The stored stacks of a grid point -/

theorem pt_dq0 (p0 p1 p2 p3 : S128x128.Slices ![0, 0] S128x64)
    (a0 : S128x1024.Slices ![0, 0] S128x64) (a64 : S128x1024.Slices ![0, 64] S128x64) (a128 : S128x1024.Slices ![0, 128] S128x64) (a192 : S128x1024.Slices ![0, 192] S128x64) (a256 : S128x1024.Slices ![0, 256] S128x64) (a320 : S128x1024.Slices ![0, 320] S128x64) (a384 : S128x1024.Slices ![0, 384] S128x64) (a448 : S128x1024.Slices ![0, 448] S128x64)
    (b0 : S128x1024.Slices ![0, 0] S128x64) (b64 : S128x1024.Slices ![0, 64] S128x64) (b128 : S128x1024.Slices ![0, 128] S128x64) (b192 : S128x1024.Slices ![0, 192] S128x64) (b256 : S128x1024.Slices ![0, 256] S128x64) (b320 : S128x1024.Slices ![0, 320] S128x64) (b384 : S128x1024.Slices ![0, 384] S128x64) (b448 : S128x1024.Slices ![0, 448] S128x64)
    (r : Fin 1024) (d : Fin 64) :
    kDq0 (iblk m c 5 t) (k0_pay8 (iblk m c 6 t)) (extractStridedSlice S128x64 ![0, 0] (iblk m c 1 t) p0) (extractStridedSlice S128x64 ![0, 0] (iblk m c 2 t) p1) (extractStridedSlice S128x64 ![0, 0] (iblk m c 3 t) p2) (extractStridedSlice S128x64 ![0, 0] (iblk m c 4 t) p3) (extractStridedSlice S128x64 ![0, 0] (iblk m c 0 t) a0) (extractStridedSlice S128x64 ![0, 64] (iblk m c 0 t) a64) (extractStridedSlice S128x64 ![0, 128] (iblk m c 0 t) a128) (extractStridedSlice S128x64 ![0, 192] (iblk m c 0 t) a192) (extractStridedSlice S128x64 ![0, 256] (iblk m c 0 t) a256) (extractStridedSlice S128x64 ![0, 320] (iblk m c 0 t) a320) (extractStridedSlice S128x64 ![0, 384] (iblk m c 0 t) a384) (extractStridedSlice S128x64 ![0, 448] (iblk m c 0 t) a448) (extractStridedSlice S128x64 ![0, 0] (iblk m c 7 t) b0) (extractStridedSlice S128x64 ![0, 64] (iblk m c 7 t) b64) (extractStridedSlice S128x64 ![0, 128] (iblk m c 7 t) b128) (extractStridedSlice S128x64 ![0, 192] (iblk m c 7 t) b192) (extractStridedSlice S128x64 ![0, 256] (iblk m c 7 t) b256) (extractStridedSlice S128x64 ![0, 320] (iblk m c 7 t) b320) (extractStridedSlice S128x64 ![0, 384] (iblk m c 7 t) b384) (extractStridedSlice S128x64 ![0, 448] (iblk m c 7 t) b448) (ix2 r d) = hDq (bQ (aQ m c) (tn t) 0) (bQ (aG m c) (tn t) 0) (bK (aK m c) (tn t) 0) (bK (aV m c) (tn t) 0) (bB (tn t)) (bS (aS m c) 0) r d :=
  (core_dq0 _ _ _ _ _ _ _ _ _ _ _ _ _ _ _ _ _ _ _ _ _ _ (bQ (aQ m c) (tn t) 0) (bQ (aG m c) (tn t) 0) (bKc (aK m c) (tn t) 0) (bKc (aV m c) (tn t) 0) (bB (tn t)) (bS (aS m c) 0) (rd_q0 m c t a0 a64 a128 a192 a256 a320 a384 a448) (rd_g0 m c t b0 b64 b128 b192 b256 b320 b384 b448) (rd_k0 m c t p0 p1) (rd_v0 m c t p2 p3) (rd_bias m c t) (rd_s0 m c t) r d).trans
    (hDq_congr (bQ (aQ m c) (tn t) 0) (bQ (aG m c) (tn t) 0) (bKc (aK m c) (tn t) 0) (bKc (aV m c) (tn t) 0) (bK (aK m c) (tn t) 0) (bK (aV m c) (tn t) 0) (bB (tn t)) (bS (aS m c) 0) (band_same (aK m c) (aV m c) (tn t) 0) r d)

theorem pt_dk0 (p0 p1 p2 p3 : S128x128.Slices ![0, 0] S128x64)
    (a0 : S128x1024.Slices ![0, 0] S128x64) (a64 : S128x1024.Slices ![0, 64] S128x64) (a128 : S128x1024.Slices ![0, 128] S128x64) (a192 : S128x1024.Slices ![0, 192] S128x64) (a256 : S128x1024.Slices ![0, 256] S128x64) (a320 : S128x1024.Slices ![0, 320] S128x64) (a384 : S128x1024.Slices ![0, 384] S128x64) (a448 : S128x1024.Slices ![0, 448] S128x64)
    (b0 : S128x1024.Slices ![0, 0] S128x64) (b64 : S128x1024.Slices ![0, 64] S128x64) (b128 : S128x1024.Slices ![0, 128] S128x64) (b192 : S128x1024.Slices ![0, 192] S128x64) (b256 : S128x1024.Slices ![0, 256] S128x64) (b320 : S128x1024.Slices ![0, 320] S128x64) (b384 : S128x1024.Slices ![0, 384] S128x64) (b448 : S128x1024.Slices ![0, 448] S128x64)
    (j : Fin 256) (d : Fin 64) :
    kDk0 (iblk m c 5 t) (k0_pay8 (iblk m c 6 t)) (extractStridedSlice S128x64 ![0, 0] (iblk m c 1 t) p0) (extractStridedSlice S128x64 ![0, 0] (iblk m c 2 t) p1) (extractStridedSlice S128x64 ![0, 0] (iblk m c 3 t) p2) (extractStridedSlice S128x64 ![0, 0] (iblk m c 4 t) p3) (extractStridedSlice S128x64 ![0, 0] (iblk m c 0 t) a0) (extractStridedSlice S128x64 ![0, 64] (iblk m c 0 t) a64) (extractStridedSlice S128x64 ![0, 128] (iblk m c 0 t) a128) (extractStridedSlice S128x64 ![0, 192] (iblk m c 0 t) a192) (extractStridedSlice S128x64 ![0, 256] (iblk m c 0 t) a256) (extractStridedSlice S128x64 ![0, 320] (iblk m c 0 t) a320) (extractStridedSlice S128x64 ![0, 384] (iblk m c 0 t) a384) (extractStridedSlice S128x64 ![0, 448] (iblk m c 0 t) a448) (extractStridedSlice S128x64 ![0, 0] (iblk m c 7 t) b0) (extractStridedSlice S128x64 ![0, 64] (iblk m c 7 t) b64) (extractStridedSlice S128x64 ![0, 128] (iblk m c 7 t) b128) (extractStridedSlice S128x64 ![0, 192] (iblk m c 7 t) b192) (extractStridedSlice S128x64 ![0, 256] (iblk m c 7 t) b256) (extractStridedSlice S128x64 ![0, 320] (iblk m c 7 t) b320) (extractStridedSlice S128x64 ![0, 384] (iblk m c 7 t) b384) (extractStridedSlice S128x64 ![0, 448] (iblk m c 7 t) b448) (ix2 j d) = hDk (bQ (aQ m c) (tn t) 0) (bQ (aG m c) (tn t) 0) (bK (aK m c) (tn t) 0) (bK (aV m c) (tn t) 0) (bB (tn t)) (bS (aS m c) 0) j d :=
  (core_dk0 _ _ _ _ _ _ _ _ _ _ _ _ _ _ _ _ _ _ _ _ _ _ (bQ (aQ m c) (tn t) 0) (bQ (aG m c) (tn t) 0) (bKc (aK m c) (tn t) 0) (bKc (aV m c) (tn t) 0) (bB (tn t)) (bS (aS m c) 0) (rd_q0 m c t a0 a64 a128 a192 a256 a320 a384 a448) (rd_g0 m c t b0 b64 b128 b192 b256 b320 b384 b448) (rd_k0 m c t p0 p1) (rd_v0 m c t p2 p3) (rd_bias m c t) (rd_s0 m c t) j d).trans
    (hDk_congr (bQ (aQ m c) (tn t) 0) (bQ (aG m c) (tn t) 0) (bKc (aK m c) (tn t) 0) (bKc (aV m c) (tn t) 0) (bK (aK m c) (tn t) 0) (bK (aV m c) (tn t) 0) (bB (tn t)) (bS (aS m c) 0) (band_same (aK m c) (aV m c) (tn t) 0) j d)

theorem pt_dv0 (p0 p1 p2 p3 : S128x128.Slices ![0, 0] S128x64)
    (a0 : S128x1024.Slices ![0, 0] S128x64) (a64 : S128x1024.Slices ![0, 64] S128x64) (a128 : S128x1024.Slices ![0, 128] S128x64) (a192 : S128x1024.Slices ![0, 192] S128x64) (a256 : S128x1024.Slices ![0, 256] S128x64) (a320 : S128x1024.Slices ![0, 320] S128x64) (a384 : S128x1024.Slices ![0, 384] S128x64) (a448 : S128x1024.Slices ![0, 448] S128x64)
    (b0 : S128x1024.Slices ![0, 0] S128x64) (b64 : S128x1024.Slices ![0, 64] S128x64) (b128 : S128x1024.Slices ![0, 128] S128x64) (b192 : S128x1024.Slices ![0, 192] S128x64) (b256 : S128x1024.Slices ![0, 256] S128x64) (b320 : S128x1024.Slices ![0, 320] S128x64) (b384 : S128x1024.Slices ![0, 384] S128x64) (b448 : S128x1024.Slices ![0, 448] S128x64)
    (j : Fin 256) (d : Fin 64) :
    kDv0 (iblk m c 5 t) (k0_pay8 (iblk m c 6 t)) (extractStridedSlice S128x64 ![0, 0] (iblk m c 1 t) p0) (extractStridedSlice S128x64 ![0, 0] (iblk m c 2 t) p1) (extractStridedSlice S128x64 ![0, 0] (iblk m c 0 t) a0) (extractStridedSlice S128x64 ![0, 64] (iblk m c 0 t) a64) (extractStridedSlice S128x64 ![0, 128] (iblk m c 0 t) a128) (extractStridedSlice S128x64 ![0, 192] (iblk m c 0 t) a192) (extractStridedSlice S128x64 ![0, 256] (iblk m c 0 t) a256) (extractStridedSlice S128x64 ![0, 320] (iblk m c 0 t) a320) (extractStridedSlice S128x64 ![0, 384] (iblk m c 0 t) a384) (extractStridedSlice S128x64 ![0, 448] (iblk m c 0 t) a448) (extractStridedSlice S128x64 ![0, 0] (iblk m c 7 t) b0) (extractStridedSlice S128x64 ![0, 64] (iblk m c 7 t) b64) (extractStridedSlice S128x64 ![0, 128] (iblk m c 7 t) b128) (extractStridedSlice S128x64 ![0, 192] (iblk m c 7 t) b192) (extractStridedSlice S128x64 ![0, 256] (iblk m c 7 t) b256) (extractStridedSlice S128x64 ![0, 320] (iblk m c 7 t) b320) (extractStridedSlice S128x64 ![0, 384] (iblk m c 7 t) b384) (extractStridedSlice S128x64 ![0, 448] (iblk m c 7 t) b448) (ix2 j d) = hDv (bQ (aQ m c) (tn t) 0) (bQ (aG m c) (tn t) 0) (bK (aK m c) (tn t) 0) (bB (tn t)) (bS (aS m c) 0) j d :=
  (core_dv0 _ _ _ _ _ _ _ _ _ _ _ _ _ _ _ _ _ _ _ _ (bQ (aQ m c) (tn t) 0) (bQ (aG m c) (tn t) 0) (bKc (aK m c) (tn t) 0) (bB (tn t)) (bS (aS m c) 0) (rd_q0 m c t a0 a64 a128 a192 a256 a320 a384 a448) (rd_g0 m c t b0 b64 b128 b192 b256 b320 b384 b448) (rd_k0 m c t p0 p1) (rd_bias m c t) (rd_s0 m c t) j d).trans
    (hDv_congr (bQ (aQ m c) (tn t) 0) (bQ (aG m c) (tn t) 0) (bKc (aK m c) (tn t) 0) (bKc (aV m c) (tn t) 0) (bK (aK m c) (tn t) 0) (bK (aV m c) (tn t) 0) (bB (tn t)) (bS (aS m c) 0) (band_same (aK m c) (aV m c) (tn t) 0) j d)

theorem pt_sk0 (p0 p1 p2 p3 : S128x128.Slices ![0, 0] S128x64)
    (a0 : S128x1024.Slices ![0, 0] S128x64) (a64 : S128x1024.Slices ![0, 64] S128x64) (a128 : S128x1024.Slices ![0, 128] S128x64) (a192 : S128x1024.Slices ![0, 192] S128x64) (a256 : S128x1024.Slices ![0, 256] S128x64) (a320 : S128x1024.Slices ![0, 320] S128x64) (a384 : S128x1024.Slices ![0, 384] S128x64) (a448 : S128x1024.Slices ![0, 448] S128x64)
    (b0 : S128x1024.Slices ![0, 0] S128x64) (b64 : S128x1024.Slices ![0, 64] S128x64) (b128 : S128x1024.Slices ![0, 128] S128x64) (b192 : S128x1024.Slices ![0, 192] S128x64) (b256 : S128x1024.Slices ![0, 256] S128x64) (b320 : S128x1024.Slices ![0, 320] S128x64) (b384 : S128x1024.Slices ![0, 384] S128x64) (b448 : S128x1024.Slices ![0, 448] S128x64)
    (l : Fin 128) :
    kSk0 (iblk m c 5 t) (k0_pay8 (iblk m c 6 t)) (extractStridedSlice S128x64 ![0, 0] (iblk m c 1 t) p0) (extractStridedSlice S128x64 ![0, 0] (iblk m c 2 t) p1) (extractStridedSlice S128x64 ![0, 0] (iblk m c 3 t) p2) (extractStridedSlice S128x64 ![0, 0] (iblk m c 4 t) p3) (extractStridedSlice S128x64 ![0, 0] (iblk m c 0 t) a0) (extractStridedSlice S128x64 ![0, 64] (iblk m c 0 t) a64) (extractStridedSlice S128x64 ![0, 128] (iblk m c 0 t) a128) (extractStridedSlice S128x64 ![0, 192] (iblk m c 0 t) a192) (extractStridedSlice S128x64 ![0, 256] (iblk m c 0 t) a256) (extractStridedSlice S128x64 ![0, 320] (iblk m c 0 t) a320) (extractStridedSlice S128x64 ![0, 384] (iblk m c 0 t) a384) (extractStridedSlice S128x64 ![0, 448] (iblk m c 0 t) a448) (extractStridedSlice S128x64 ![0, 0] (iblk m c 7 t) b0) (extractStridedSlice S128x64 ![0, 64] (iblk m c 7 t) b64) (extractStridedSlice S128x64 ![0, 128] (iblk m c 7 t) b128) (extractStridedSlice S128x64 ![0, 192] (iblk m c 7 t) b192) (extractStridedSlice S128x64 ![0, 256] (iblk m c 7 t) b256) (extractStridedSlice S128x64 ![0, 320] (iblk m c 7 t) b320) (extractStridedSlice S128x64 ![0, 384] (iblk m c 7 t) b384) (extractStridedSlice S128x64 ![0, 448] (iblk m c 7 t) b448) (ix2 0 l)
      = ∑ r : Fin 1024, if r.val / 128 + 0 = l.val then hSink (bQ (aQ m c) (tn t) 0) (bQ (aG m c) (tn t) 0) (bK (aK m c) (tn t) 0) (bK (aV m c) (tn t) 0) (bB (tn t)) (bS (aS m c) 0) r else 0 := by
  rw [core_sk0 _ _ _ _ _ _ _ _ _ _ _ _ _ _ _ _ _ _ _ _ _ _ (bQ (aQ m c) (tn t) 0) (bQ (aG m c) (tn t) 0) (bKc (aK m c) (tn t) 0) (bKc (aV m c) (tn t) 0) (bB (tn t)) (bS (aS m c) 0) (rd_q0 m c t a0 a64 a128 a192 a256 a320 a384 a448) (rd_g0 m c t b0 b64 b128 b192 b256 b320 b384 b448) (rd_k0 m c t p0 p1) (rd_v0 m c t p2 p3) (rd_bias m c t) (rd_s0 m c t) l]
  refine Finset.sum_congr rfl fun r _ => ?_
  rw [hSink_congr (bQ (aQ m c) (tn t) 0) (bQ (aG m c) (tn t) 0) (bKc (aK m c) (tn t) 0) (bKc (aV m c) (tn t) 0) (bK (aK m c) (tn t) 0) (bK (aV m c) (tn t) 0) (bB (tn t)) (bS (aS m c) 0) (band_same (aK m c) (aV m c) (tn t) 0) r]

theorem pt_dq1 (p0 p1 p2 p3 : S128x128.Slices ![0, 64] S128x64)
    (a512 : S128x1024.Slices ![0, 512] S128x64) (a576 : S128x1024.Slices ![0, 576] S128x64) (a640 : S128x1024.Slices ![0, 640] S128x64) (a704 : S128x1024.Slices ![0, 704] S128x64) (a768 : S128x1024.Slices ![0, 768] S128x64) (a832 : S128x1024.Slices ![0, 832] S128x64) (a896 : S128x1024.Slices ![0, 896] S128x64) (a960 : S128x1024.Slices ![0, 960] S128x64)
    (b512 : S128x1024.Slices ![0, 512] S128x64) (b576 : S128x1024.Slices ![0, 576] S128x64) (b640 : S128x1024.Slices ![0, 640] S128x64) (b704 : S128x1024.Slices ![0, 704] S128x64) (b768 : S128x1024.Slices ![0, 768] S128x64) (b832 : S128x1024.Slices ![0, 832] S128x64) (b896 : S128x1024.Slices ![0, 896] S128x64) (b960 : S128x1024.Slices ![0, 960] S128x64)
    (r : Fin 1024) (d : Fin 64) :
    kDq1 (iblk m c 5 t) (k0_pay8 (iblk m c 6 t)) (extractStridedSlice S128x64 ![0, 64] (iblk m c 1 t) p0) (extractStridedSlice S128x64 ![0, 64] (iblk m c 2 t) p1) (extractStridedSlice S128x64 ![0, 64] (iblk m c 3 t) p2) (extractStridedSlice S128x64 ![0, 64] (iblk m c 4 t) p3) (extractStridedSlice S128x64 ![0, 512] (iblk m c 0 t) a512) (extractStridedSlice S128x64 ![0, 576] (iblk m c 0 t) a576) (extractStridedSlice S128x64 ![0, 640] (iblk m c 0 t) a640) (extractStridedSlice S128x64 ![0, 704] (iblk m c 0 t) a704) (extractStridedSlice S128x64 ![0, 768] (iblk m c 0 t) a768) (extractStridedSlice S128x64 ![0, 832] (iblk m c 0 t) a832) (extractStridedSlice S128x64 ![0, 896] (iblk m c 0 t) a896) (extractStridedSlice S128x64 ![0, 960] (iblk m c 0 t) a960) (extractStridedSlice S128x64 ![0, 512] (iblk m c 7 t) b512) (extractStridedSlice S128x64 ![0, 576] (iblk m c 7 t) b576) (extractStridedSlice S128x64 ![0, 640] (iblk m c 7 t) b640) (extractStridedSlice S128x64 ![0, 704] (iblk m c 7 t) b704) (extractStridedSlice S128x64 ![0, 768] (iblk m c 7 t) b768) (extractStridedSlice S128x64 ![0, 832] (iblk m c 7 t) b832) (extractStridedSlice S128x64 ![0, 896] (iblk m c 7 t) b896) (extractStridedSlice S128x64 ![0, 960] (iblk m c 7 t) b960) (ix2 r d) = hDq (bQ (aQ m c) (tn t) 1) (bQ (aG m c) (tn t) 1) (bK (aK m c) (tn t) 1) (bK (aV m c) (tn t) 1) (bB (tn t)) (bS (aS m c) 1) r d :=
  (core_dq1 _ _ _ _ _ _ _ _ _ _ _ _ _ _ _ _ _ _ _ _ _ _ (bQ (aQ m c) (tn t) 1) (bQ (aG m c) (tn t) 1) (bKc (aK m c) (tn t) 1) (bKc (aV m c) (tn t) 1) (bB (tn t)) (bS (aS m c) 1) (rd_q1 m c t a512 a576 a640 a704 a768 a832 a896 a960) (rd_g1 m c t b512 b576 b640 b704 b768 b832 b896 b960) (rd_k1 m c t p0 p1) (rd_v1 m c t p2 p3) (rd_bias m c t) (rd_s1 m c t) r d).trans
    (hDq_congr (bQ (aQ m c) (tn t) 1) (bQ (aG m c) (tn t) 1) (bKc (aK m c) (tn t) 1) (bKc (aV m c) (tn t) 1) (bK (aK m c) (tn t) 1) (bK (aV m c) (tn t) 1) (bB (tn t)) (bS (aS m c) 1) (band_same (aK m c) (aV m c) (tn t) 1) r d)

theorem pt_dk1 (p0 p1 p2 p3 : S128x128.Slices ![0, 64] S128x64)
    (a512 : S128x1024.Slices ![0, 512] S128x64) (a576 : S128x1024.Slices ![0, 576] S128x64) (a640 : S128x1024.Slices ![0, 640] S128x64) (a704 : S128x1024.Slices ![0, 704] S128x64) (a768 : S128x1024.Slices ![0, 768] S128x64) (a832 : S128x1024.Slices ![0, 832] S128x64) (a896 : S128x1024.Slices ![0, 896] S128x64) (a960 : S128x1024.Slices ![0, 960] S128x64)
    (b512 : S128x1024.Slices ![0, 512] S128x64) (b576 : S128x1024.Slices ![0, 576] S128x64) (b640 : S128x1024.Slices ![0, 640] S128x64) (b704 : S128x1024.Slices ![0, 704] S128x64) (b768 : S128x1024.Slices ![0, 768] S128x64) (b832 : S128x1024.Slices ![0, 832] S128x64) (b896 : S128x1024.Slices ![0, 896] S128x64) (b960 : S128x1024.Slices ![0, 960] S128x64)
    (j : Fin 256) (d : Fin 64) :
    kDk1 (iblk m c 5 t) (k0_pay8 (iblk m c 6 t)) (extractStridedSlice S128x64 ![0, 64] (iblk m c 1 t) p0) (extractStridedSlice S128x64 ![0, 64] (iblk m c 2 t) p1) (extractStridedSlice S128x64 ![0, 64] (iblk m c 3 t) p2) (extractStridedSlice S128x64 ![0, 64] (iblk m c 4 t) p3) (extractStridedSlice S128x64 ![0, 512] (iblk m c 0 t) a512) (extractStridedSlice S128x64 ![0, 576] (iblk m c 0 t) a576) (extractStridedSlice S128x64 ![0, 640] (iblk m c 0 t) a640) (extractStridedSlice S128x64 ![0, 704] (iblk m c 0 t) a704) (extractStridedSlice S128x64 ![0, 768] (iblk m c 0 t) a768) (extractStridedSlice S128x64 ![0, 832] (iblk m c 0 t) a832) (extractStridedSlice S128x64 ![0, 896] (iblk m c 0 t) a896) (extractStridedSlice S128x64 ![0, 960] (iblk m c 0 t) a960) (extractStridedSlice S128x64 ![0, 512] (iblk m c 7 t) b512) (extractStridedSlice S128x64 ![0, 576] (iblk m c 7 t) b576) (extractStridedSlice S128x64 ![0, 640] (iblk m c 7 t) b640) (extractStridedSlice S128x64 ![0, 704] (iblk m c 7 t) b704) (extractStridedSlice S128x64 ![0, 768] (iblk m c 7 t) b768) (extractStridedSlice S128x64 ![0, 832] (iblk m c 7 t) b832) (extractStridedSlice S128x64 ![0, 896] (iblk m c 7 t) b896) (extractStridedSlice S128x64 ![0, 960] (iblk m c 7 t) b960) (ix2 j d) = hDk (bQ (aQ m c) (tn t) 1) (bQ (aG m c) (tn t) 1) (bK (aK m c) (tn t) 1) (bK (aV m c) (tn t) 1) (bB (tn t)) (bS (aS m c) 1) j d :=
  (core_dk1 _ _ _ _ _ _ _ _ _ _ _ _ _ _ _ _ _ _ _ _ _ _ (bQ (aQ m c) (tn t) 1) (bQ (aG m c) (tn t) 1) (bKc (aK m c) (tn t) 1) (bKc (aV m c) (tn t) 1) (bB (tn t)) (bS (aS m c) 1) (rd_q1 m c t a512 a576 a640 a704 a768 a832 a896 a960) (rd_g1 m c t b512 b576 b640 b704 b768 b832 b896 b960) (rd_k1 m c t p0 p1) (rd_v1 m c t p2 p3) (rd_bias m c t) (rd_s1 m c t) j d).trans
    (hDk_congr (bQ (aQ m c) (tn t) 1) (bQ (aG m c) (tn t) 1) (bKc (aK m c) (tn t) 1) (bKc (aV m c) (tn t) 1) (bK (aK m c) (tn t) 1) (bK (aV m c) (tn t) 1) (bB (tn t)) (bS (aS m c) 1) (band_same (aK m c) (aV m c) (tn t) 1) j d)

theorem pt_dv1 (p0 p1 p2 p3 : S128x128.Slices ![0, 64] S128x64)
    (a512 : S128x1024.Slices ![0, 512] S128x64) (a576 : S128x1024.Slices ![0, 576] S128x64) (a640 : S128x1024.Slices ![0, 640] S128x64) (a704 : S128x1024.Slices ![0, 704] S128x64) (a768 : S128x1024.Slices ![0, 768] S128x64) (a832 : S128x1024.Slices ![0, 832] S128x64) (a896 : S128x1024.Slices ![0, 896] S128x64) (a960 : S128x1024.Slices ![0, 960] S128x64)
    (b512 : S128x1024.Slices ![0, 512] S128x64) (b576 : S128x1024.Slices ![0, 576] S128x64) (b640 : S128x1024.Slices ![0, 640] S128x64) (b704 : S128x1024.Slices ![0, 704] S128x64) (b768 : S128x1024.Slices ![0, 768] S128x64) (b832 : S128x1024.Slices ![0, 832] S128x64) (b896 : S128x1024.Slices ![0, 896] S128x64) (b960 : S128x1024.Slices ![0, 960] S128x64)
    (j : Fin 256) (d : Fin 64) :
    kDv1 (iblk m c 5 t) (k0_pay8 (iblk m c 6 t)) (extractStridedSlice S128x64 ![0, 64] (iblk m c 1 t) p0) (extractStridedSlice S128x64 ![0, 64] (iblk m c 2 t) p1) (extractStridedSlice S128x64 ![0, 512] (iblk m c 0 t) a512) (extractStridedSlice S128x64 ![0, 576] (iblk m c 0 t) a576) (extractStridedSlice S128x64 ![0, 640] (iblk m c 0 t) a640) (extractStridedSlice S128x64 ![0, 704] (iblk m c 0 t) a704) (extractStridedSlice S128x64 ![0, 768] (iblk m c 0 t) a768) (extractStridedSlice S128x64 ![0, 832] (iblk m c 0 t) a832) (extractStridedSlice S128x64 ![0, 896] (iblk m c 0 t) a896) (extractStridedSlice S128x64 ![0, 960] (iblk m c 0 t) a960) (extractStridedSlice S128x64 ![0, 512] (iblk m c 7 t) b512) (extractStridedSlice S128x64 ![0, 576] (iblk m c 7 t) b576) (extractStridedSlice S128x64 ![0, 640] (iblk m c 7 t) b640) (extractStridedSlice S128x64 ![0, 704] (iblk m c 7 t) b704) (extractStridedSlice S128x64 ![0, 768] (iblk m c 7 t) b768) (extractStridedSlice S128x64 ![0, 832] (iblk m c 7 t) b832) (extractStridedSlice S128x64 ![0, 896] (iblk m c 7 t) b896) (extractStridedSlice S128x64 ![0, 960] (iblk m c 7 t) b960) (ix2 j d) = hDv (bQ (aQ m c) (tn t) 1) (bQ (aG m c) (tn t) 1) (bK (aK m c) (tn t) 1) (bB (tn t)) (bS (aS m c) 1) j d :=
  (core_dv1 _ _ _ _ _ _ _ _ _ _ _ _ _ _ _ _ _ _ _ _ (bQ (aQ m c) (tn t) 1) (bQ (aG m c) (tn t) 1) (bKc (aK m c) (tn t) 1) (bB (tn t)) (bS (aS m c) 1) (rd_q1 m c t a512 a576 a640 a704 a768 a832 a896 a960) (rd_g1 m c t b512 b576 b640 b704 b768 b832 b896 b960) (rd_k1 m c t p0 p1) (rd_bias m c t) (rd_s1 m c t) j d).trans
    (hDv_congr (bQ (aQ m c) (tn t) 1) (bQ (aG m c) (tn t) 1) (bKc (aK m c) (tn t) 1) (bKc (aV m c) (tn t) 1) (bK (aK m c) (tn t) 1) (bK (aV m c) (tn t) 1) (bB (tn t)) (bS (aS m c) 1) (band_same (aK m c) (aV m c) (tn t) 1) j d)

theorem pt_sk1 (p0 p1 p2 p3 : S128x128.Slices ![0, 64] S128x64)
    (a512 : S128x1024.Slices ![0, 512] S128x64) (a576 : S128x1024.Slices ![0, 576] S128x64) (a640 : S128x1024.Slices ![0, 640] S128x64) (a704 : S128x1024.Slices ![0, 704] S128x64) (a768 : S128x1024.Slices ![0, 768] S128x64) (a832 : S128x1024.Slices ![0, 832] S128x64) (a896 : S128x1024.Slices ![0, 896] S128x64) (a960 : S128x1024.Slices ![0, 960] S128x64)
    (b512 : S128x1024.Slices ![0, 512] S128x64) (b576 : S128x1024.Slices ![0, 576] S128x64) (b640 : S128x1024.Slices ![0, 640] S128x64) (b704 : S128x1024.Slices ![0, 704] S128x64) (b768 : S128x1024.Slices ![0, 768] S128x64) (b832 : S128x1024.Slices ![0, 832] S128x64) (b896 : S128x1024.Slices ![0, 896] S128x64) (b960 : S128x1024.Slices ![0, 960] S128x64)
    (l : Fin 128) :
    kSk1 (iblk m c 5 t) (k0_pay8 (iblk m c 6 t)) (extractStridedSlice S128x64 ![0, 64] (iblk m c 1 t) p0) (extractStridedSlice S128x64 ![0, 64] (iblk m c 2 t) p1) (extractStridedSlice S128x64 ![0, 64] (iblk m c 3 t) p2) (extractStridedSlice S128x64 ![0, 64] (iblk m c 4 t) p3) (extractStridedSlice S128x64 ![0, 512] (iblk m c 0 t) a512) (extractStridedSlice S128x64 ![0, 576] (iblk m c 0 t) a576) (extractStridedSlice S128x64 ![0, 640] (iblk m c 0 t) a640) (extractStridedSlice S128x64 ![0, 704] (iblk m c 0 t) a704) (extractStridedSlice S128x64 ![0, 768] (iblk m c 0 t) a768) (extractStridedSlice S128x64 ![0, 832] (iblk m c 0 t) a832) (extractStridedSlice S128x64 ![0, 896] (iblk m c 0 t) a896) (extractStridedSlice S128x64 ![0, 960] (iblk m c 0 t) a960) (extractStridedSlice S128x64 ![0, 512] (iblk m c 7 t) b512) (extractStridedSlice S128x64 ![0, 576] (iblk m c 7 t) b576) (extractStridedSlice S128x64 ![0, 640] (iblk m c 7 t) b640) (extractStridedSlice S128x64 ![0, 704] (iblk m c 7 t) b704) (extractStridedSlice S128x64 ![0, 768] (iblk m c 7 t) b768) (extractStridedSlice S128x64 ![0, 832] (iblk m c 7 t) b832) (extractStridedSlice S128x64 ![0, 896] (iblk m c 7 t) b896) (extractStridedSlice S128x64 ![0, 960] (iblk m c 7 t) b960) (ix2 0 l)
      = ∑ r : Fin 1024, if r.val / 128 + 8 = l.val then hSink (bQ (aQ m c) (tn t) 1) (bQ (aG m c) (tn t) 1) (bK (aK m c) (tn t) 1) (bK (aV m c) (tn t) 1) (bB (tn t)) (bS (aS m c) 1) r else 0 := by
  rw [core_sk1 _ _ _ _ _ _ _ _ _ _ _ _ _ _ _ _ _ _ _ _ _ _ (bQ (aQ m c) (tn t) 1) (bQ (aG m c) (tn t) 1) (bKc (aK m c) (tn t) 1) (bKc (aV m c) (tn t) 1) (bB (tn t)) (bS (aS m c) 1) (rd_q1 m c t a512 a576 a640 a704 a768 a832 a896 a960) (rd_g1 m c t b512 b576 b640 b704 b768 b832 b896 b960) (rd_k1 m c t p0 p1) (rd_v1 m c t p2 p3) (rd_bias m c t) (rd_s1 m c t) l]
  refine Finset.sum_congr rfl fun r _ => ?_
  rw [hSink_congr (bQ (aQ m c) (tn t) 1) (bQ (aG m c) (tn t) 1) (bKc (aK m c) (tn t) 1) (bKc (aV m c) (tn t) 1) (bK (aK m c) (tn t) 1) (bK (aV m c) (tn t) 1) (bB (tn t)) (bS (aS m c) 1) (band_same (aK m c) (aV m c) (tn t) 1) r]

end reads

end Cert.KernelIdeal.Value
-- ==== Proof.KPoint.lean ====
module

public import proofs.«01_k».proof.Proof.KRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen Cert.Attn

variable (m : (ℓ : Loc nD τ sig) → Buf (Elt Ideal) ℓ)

/-- A tile of rows of a stack. -/
theorem rows256 (o : ℕ) (X : FVec Ideal S256x64 .f32) (h : S256x64.Slices ![o, 0] S128x64) (ho : o = 0 ∨ o = 128) (x : S128x64.Idx) :
    extractStridedSlice S128x64 ![o, 0] X h x = X (ix2 ⟨o + (x 0).val, by have := (x 0).isLt; change (x 0).val < 128 at this; omega⟩ (x 1)) := by
  obtain ⟨i, d, rfl⟩ : ∃ i d, x = ix2 i d := ⟨x 0, x 1, eq_ix2 x⟩
  rcases ho with rfl | rfl <;> pointwise []

theorem rows1024 (o : ℕ) (X : FVec Ideal S1024x64 .f32) (h : S1024x64.Slices ![o, 0] S128x64) (ho : o ≤ 896) (x : S128x64.Idx) :
    extractStridedSlice S128x64 ![o, 0] X h x = X (ix2 ⟨o + (x 0).val, by have := (x 0).isLt; change (x 0).val < 128 at this; omega⟩ (x 1)) := by
  obtain ⟨i, d, rfl⟩ : ∃ i d, x = ix2 i d := ⟨x 0, x 1, eq_ix2 x⟩
  pointwise []

set_option maxHeartbeats 2000000 in
theorem point_8_A (c : Dev nD) (t : Fin cfg0.N) (h0 : t.val % 32 = 0) (y) :
    (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t) (iblk m c 3 t) (iblk m c 4 t) (iblk m c 5 t) (iblk m c 6 t) (iblk m c 7 t) ) y
      = (fun z => sDq (aQ m c) (aK m c) (aV m c) (aS m c) (aG m c) (z 0) (z 1) : S4096x1024.Idx → EReal) (((cfg0.win 8).blk t).view.emb y) := by
  frame_out
  canon_tiles x hh
  all_goals simp only [View.ld_unit]
  all_goals have x0_lt : (x 0).val < 128 := (x 0).isLt
  all_goals have x1_lt : (x 1).val < 64 := (x 1).isLt
  all_goals have y0_lt : (y 0).val < 128 := (y 0).isLt
  · refine (rows1024 896 _ slices_S1024x64_o896_0_S128x64 (by decide) x).trans ((pt_dq1 m c t _ _ _ _ _ _ _ _ _ _ _ _ _ _ _ _ _ _ _ _ _ _).trans (sDq_at _ _ _ _ _ (tn t) 1 _ _ _ _ ?_ ?_ ?_ ?_))
    all_goals blk_simp [idx_val t]
    all_goals simp [tn]
    all_goals omega
  · refine (rows1024 768 _ slices_S1024x64_o768_0_S128x64 (by decide) x).trans ((pt_dq1 m c t _ _ _ _ _ _ _ _ _ _ _ _ _ _ _ _ _ _ _ _ _ _).trans (sDq_at _ _ _ _ _ (tn t) 1 _ _ _ _ ?_ ?_ ?_ ?_))
    all_goals blk_simp [idx_val t]
    all_goals simp [tn]
    all_goals omega
  · refine (rows1024 640 _ slices_S1024x64_o640_0_S128x64 (by decide) x).trans ((pt_dq1 m c t _ _ _ _ _ _ _ _ _ _ _ _ _ _ _ _ _ _ _ _ _ _).trans (sDq_at _ _ _ _ _ (tn t) 1 _ _ _ _ ?_ ?_ ?_ ?_))
    all_goals blk_simp [idx_val t]
    all_goals simp [tn]
    all_goals omega
  · refine (rows1024 512 _ slices_S1024x64_o512_0_S128x64 (by decide) x).trans ((pt_dq1 m c t _ _ _ _ _ _ _ _ _ _ _ _ _ _ _ _ _ _ _ _ _ _).trans (sDq_at _ _ _ _ _ (tn t) 1 _ _ _ _ ?_ ?_ ?_ ?_))
    all_goals blk_simp [idx_val t]
    all_goals simp [tn]
    all_goals omega
  · refine (rows1024 384 _ slices_S1024x64_o384_0_S128x64 (by decide) x).trans ((pt_dq1 m c t _ _ _ _ _ _ _ _ _ _ _ _ _ _ _ _ _ _ _ _ _ _).trans (sDq_at _ _ _ _ _ (tn t) 1 _ _ _ _ ?_ ?_ ?_ ?_))
    all_goals blk_simp [idx_val t]
    all_goals simp [tn]
    all_goals omega
  · refine (rows1024 256 _ slices_S1024x64_o256_0_S128x64 (by decide) x).trans ((pt_dq1 m c t _ _ _ _ _ _ _ _ _ _ _ _ _ _ _ _ _ _ _ _ _ _).trans (sDq_at _ _ _ _ _ (tn t) 1 _ _ _ _ ?_ ?_ ?_ ?_))
    all_goals blk_simp [idx_val t]
    all_goals simp [tn]
    all_goals omega
  · refine (rows1024 128 _ slices_S1024x64_o128_0_S128x64 (by decide) x).trans ((pt_dq1 m c t _ _ _ _ _ _ _ _ _ _ _ _ _ _ _ _ _ _ _ _ _ _).trans (sDq_at _ _ _ _ _ (tn t) 1 _ _ _ _ ?_ ?_ ?_ ?_))
    all_goals blk_simp [idx_val t]
    all_goals simp [tn]
    all_goals omega
  · refine (rows1024 0 _ slices_S1024x64_o0_0_S128x64 (by decide) x).trans ((pt_dq1 m c t _ _ _ _ _ _ _ _ _ _ _ _ _ _ _ _ _ _ _ _ _ _).trans (sDq_at _ _ _ _ _ (tn t) 1 _ _ _ _ ?_ ?_ ?_ ?_))
    all_goals blk_simp [idx_val t]
    all_goals simp [tn]
    all_goals omega
  · refine (rows1024 896 _ slices_S1024x64_o896_0_S128x64 (by decide) x).trans ((pt_dq0 m c t _ _ _ _ _ _ _ _ _ _ _ _ _ _ _ _ _ _ _ _ _ _).trans (sDq_at _ _ _ _ _ (tn t) 0 _ _ _ _ ?_ ?_ ?_ ?_))
    all_goals blk_simp [idx_val t]
    all_goals simp [tn]
    all_goals omega
  · refine (rows1024 768 _ slices_S1024x64_o768_0_S128x64 (by decide) x).trans ((pt_dq0 m c t _ _ _ _ _ _ _ _ _ _ _ _ _ _ _ _ _ _ _ _ _ _).trans (sDq_at _ _ _ _ _ (tn t) 0 _ _ _ _ ?_ ?_ ?_ ?_))
    all_goals blk_simp [idx_val t]
    all_goals simp [tn]
    all_goals omega
  · refine (rows1024 640 _ slices_S1024x64_o640_0_S128x64 (by decide) x).trans ((pt_dq0 m c t _ _ _ _ _ _ _ _ _ _ _ _ _ _ _ _ _ _ _ _ _ _).trans (sDq_at _ _ _ _ _ (tn t) 0 _ _ _ _ ?_ ?_ ?_ ?_))
    all_goals blk_simp [idx_val t]
    all_goals simp [tn]
    all_goals omega
  · refine (rows1024 512 _ slices_S1024x64_o512_0_S128x64 (by decide) x).trans ((pt_dq0 m c t _ _ _ _ _ _ _ _ _ _ _ _ _ _ _ _ _ _ _ _ _ _).trans (sDq_at _ _ _ _ _ (tn t) 0 _ _ _ _ ?_ ?_ ?_ ?_))
    all_goals blk_simp [idx_val t]
    all_goals simp [tn]
    all_goals omega
  · refine (rows1024 384 _ slices_S1024x64_o384_0_S128x64 (by decide) x).trans ((pt_dq0 m c t _ _ _ _ _ _ _ _ _ _ _ _ _ _ _ _ _ _ _ _ _ _).trans (sDq_at _ _ _ _ _ (tn t) 0 _ _ _ _ ?_ ?_ ?_ ?_))
    all_goals blk_simp [idx_val t]
    all_goals simp [tn]
    all_goals omega
  · refine (rows1024 256 _ slices_S1024x64_o256_0_S128x64 (by decide) x).trans ((pt_dq0 m c t _ _ _ _ _ _ _ _ _ _ _ _ _ _ _ _ _ _ _ _ _ _).trans (sDq_at _ _ _ _ _ (tn t) 0 _ _ _ _ ?_ ?_ ?_ ?_))
    all_goals blk_simp [idx_val t]
    all_goals simp [tn]
    all_goals omega
  · refine (rows1024 128 _ slices_S1024x64_o128_0_S128x64 (by decide) x).trans ((pt_dq0 m c t _ _ _ _ _ _ _ _ _ _ _ _ _ _ _ _ _ _ _ _ _ _).trans (sDq_at _ _ _ _ _ (tn t) 0 _ _ _ _ ?_ ?_ ?_ ?_))
    all_goals blk_simp [idx_val t]
    all_goals simp [tn]
    all_goals omega
  · refine (rows1024 0 _ slices_S1024x64_o0_0_S128x64 (by decide) x).trans ((pt_dq0 m c t _ _ _ _ _ _ _ _ _ _ _ _ _ _ _ _ _ _ _ _ _ _).trans (sDq_at _ _ _ _ _ (tn t) 0 _ _ _ _ ?_ ?_ ?_ ?_))
    all_goals blk_simp [idx_val t]
    all_goals simp [tn]
    all_goals omega

set_option maxHeartbeats 2000000 in
theorem point_8_B (c : Dev nD) (t : Fin cfg0.N) (h0 : ¬t.val % 32 = 0) (y) :
    (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2) y
      = (fun z => sDq (aQ m c) (aK m c) (aV m c) (aS m c) (aG m c) (z 0) (z 1) : S4096x1024.Idx → EReal) (((cfg0.win 8).blk t).view.emb y) := by
  frame_out
  canon_tiles x hh
  all_goals simp only [View.ld_unit]
  all_goals have x0_lt : (x 0).val < 128 := (x 0).isLt
  all_goals have x1_lt : (x 1).val < 64 := (x 1).isLt
  all_goals have y0_lt : (y 0).val < 128 := (y 0).isLt
  · refine (rows1024 896 _ slices_S1024x64_o896_0_S128x64 (by decide) x).trans ((pt_dq1 m c t _ _ _ _ _ _ _ _ _ _ _ _ _ _ _ _ _ _ _ _ _ _).trans (sDq_at _ _ _ _ _ (tn t) 1 _ _ _ _ ?_ ?_ ?_ ?_))
    all_goals blk_simp [idx_val t]
    all_goals simp [tn]
    all_goals omega
  · refine (rows1024 768 _ slices_S1024x64_o768_0_S128x64 (by decide) x).trans ((pt_dq1 m c t _ _ _ _ _ _ _ _ _ _ _ _ _ _ _ _ _ _ _ _ _ _).trans (sDq_at _ _ _ _ _ (tn t) 1 _ _ _ _ ?_ ?_ ?_ ?_))
    all_goals blk_simp [idx_val t]
    all_goals simp [tn]
    all_goals omega
  · refine (rows1024 640 _ slices_S1024x64_o640_0_S128x64 (by decide) x).trans ((pt_dq1 m c t _ _ _ _ _ _ _ _ _ _ _ _ _ _ _ _ _ _ _ _ _ _).trans (sDq_at _ _ _ _ _ (tn t) 1 _ _ _ _ ?_ ?_ ?_ ?_))
    all_goals blk_simp [idx_val t]
    all_goals simp [tn]
    all_goals omega
  · refine (rows1024 512 _ slices_S1024x64_o512_0_S128x64 (by decide) x).trans ((pt_dq1 m c t _ _ _ _ _ _ _ _ _ _ _ _ _ _ _ _ _ _ _ _ _ _).trans (sDq_at _ _ _ _ _ (tn t) 1 _ _ _ _ ?_ ?_ ?_ ?_))
    all_goals blk_simp [idx_val t]
    all_goals simp [tn]
    all_goals omega
  · refine (rows1024 384 _ slices_S1024x64_o384_0_S128x64 (by decide) x).trans ((pt_dq1 m c t _ _ _ _ _ _ _ _ _ _ _ _ _ _ _ _ _ _ _ _ _ _).trans (sDq_at _ _ _ _ _ (tn t) 1 _ _ _ _ ?_ ?_ ?_ ?_))
    all_goals blk_simp [idx_val t]
    all_goals simp [tn]
    all_goals omega
  · refine (rows1024 256 _ slices_S1024x64_o256_0_S128x64 (by decide) x).trans ((pt_dq1 m c t _ _ _ _ _ _ _ _ _ _ _ _ _ _ _ _ _ _ _ _ _ _).trans (sDq_at _ _ _ _ _ (tn t) 1 _ _ _ _ ?_ ?_ ?_ ?_))
    all_goals blk_simp [idx_val t]
    all_goals simp [tn]
    all_goals omega
  · refine (rows1024 128 _ slices_S1024x64_o128_0_S128x64 (by decide) x).trans ((pt_dq1 m c t _ _ _ _ _ _ _ _ _ _ _ _ _ _ _ _ _ _ _ _ _ _).trans (sDq_at _ _ _ _ _ (tn t) 1 _ _ _ _ ?_ ?_ ?_ ?_))
    all_goals blk_simp [idx_val t]
    all_goals simp [tn]
    all_goals omega
  · refine (rows1024 0 _ slices_S1024x64_o0_0_S128x64 (by decide) x).trans ((pt_dq1 m c t _ _ _ _ _ _ _ _ _ _ _ _ _ _ _ _ _ _ _ _ _ _).trans (sDq_at _ _ _ _ _ (tn t) 1 _ _ _ _ ?_ ?_ ?_ ?_))
    all_goals blk_simp [idx_val t]
    all_goals simp [tn]
    all_goals omega
  · refine (rows1024 896 _ slices_S1024x64_o896_0_S128x64 (by decide) x).trans ((pt_dq0 m c t _ _ _ _ _ _ _ _ _ _ _ _ _ _ _ _ _ _ _ _ _ _).trans (sDq_at _ _ _ _ _ (tn t) 0 _ _ _ _ ?_ ?_ ?_ ?_))
    all_goals blk_simp [idx_val t]
    all_goals simp [tn]
    all_goals omega
  · refine (rows1024 768 _ slices_S1024x64_o768_0_S128x64 (by decide) x).trans ((pt_dq0 m c t _ _ _ _ _ _ _ _ _ _ _ _ _ _ _ _ _ _ _ _ _ _).trans (sDq_at _ _ _ _ _ (tn t) 0 _ _ _ _ ?_ ?_ ?_ ?_))
    all_goals blk_simp [idx_val t]
    all_goals simp [tn]
    all_goals omega
  · refine (rows1024 640 _ slices_S1024x64_o640_0_S128x64 (by decide) x).trans ((pt_dq0 m c t _ _ _ _ _ _ _ _ _ _ _ _ _ _ _ _ _ _ _ _ _ _).trans (sDq_at _ _ _ _ _ (tn t) 0 _ _ _ _ ?_ ?_ ?_ ?_))
    all_goals blk_simp [idx_val t]
    all_goals simp [tn]
    all_goals omega
  · refine (rows1024 512 _ slices_S1024x64_o512_0_S128x64 (by decide) x).trans ((pt_dq0 m c t _ _ _ _ _ _ _ _ _ _ _ _ _ _ _ _ _ _ _ _ _ _).trans (sDq_at _ _ _ _ _ (tn t) 0 _ _ _ _ ?_ ?_ ?_ ?_))
    all_goals blk_simp [idx_val t]
    all_goals simp [tn]
    all_goals omega
  · refine (rows1024 384 _ slices_S1024x64_o384_0_S128x64 (by decide) x).trans ((pt_dq0 m c t _ _ _ _ _ _ _ _ _ _ _ _ _ _ _ _ _ _ _ _ _ _).trans (sDq_at _ _ _ _ _ (tn t) 0 _ _ _ _ ?_ ?_ ?_ ?_))
    all_goals blk_simp [idx_val t]
    all_goals simp [tn]
    all_goals omega
  · refine (rows1024 256 _ slices_S1024x64_o256_0_S128x64 (by decide) x).trans ((pt_dq0 m c t _ _ _ _ _ _ _ _ _ _ _ _ _ _ _ _ _ _ _ _ _ _).trans (sDq_at _ _ _ _ _ (tn t) 0 _ _ _ _ ?_ ?_ ?_ ?_))
    all_goals blk_simp [idx_val t]
    all_goals simp [tn]
    all_goals omega
  · refine (rows1024 128 _ slices_S1024x64_o128_0_S128x64 (by decide) x).trans ((pt_dq0 m c t _ _ _ _ _ _ _ _ _ _ _ _ _ _ _ _ _ _ _ _ _ _).trans (sDq_at _ _ _ _ _ (tn t) 0 _ _ _ _ ?_ ?_ ?_ ?_))
    all_goals blk_simp [idx_val t]
    all_goals simp [tn]
    all_goals omega
  · refine (rows1024 0 _ slices_S1024x64_o0_0_S128x64 (by decide) x).trans ((pt_dq0 m c t _ _ _ _ _ _ _ _ _ _ _ _ _ _ _ _ _ _ _ _ _ _).trans (sDq_at _ _ _ _ _ (tn t) 0 _ _ _ _ ?_ ?_ ?_ ?_))
    all_goals blk_simp [idx_val t]
    all_goals simp [tn]
    all_goals omega

theorem final_8 (c : Dev nD) : (dats m 0 c).arrAt 8 (cfgs 0).N = (fun z => sDq (aQ m c) (aK m c) (aV m c) (aS m c) (aG m c) (z 0) (z 1) : S4096x1024.Idx → EReal) := by
  refine (dats m 0 c).arrAt_eq_of_covers 8 _ (by decide +kernel) fun t hf y => ?_
  blk_simp; rw [after0_8]
  by_cases h : t.val % 32 = 0
  · rw [outsAt0_A m c t h]; dsimp only; exact point_8_A m c t h y
  · rw [outsAt0_B m c t h]; dsimp only; exact point_8_B m c t h y

set_option maxHeartbeats 2000000 in
theorem point_9_A (c : Dev nD) (t : Fin cfg0.N) (h0 : t.val % 32 = 0) (y) :
    (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t) (iblk m c 3 t) (iblk m c 4 t) (iblk m c 5 t) (iblk m c 6 t) (iblk m c 7 t) ) y
      = (fun z => sDk (aQ m c) (aK m c) (aV m c) (aS m c) (aG m c) 0 (z 0) (z 1) : S4096x128.Idx → EReal) (((cfg0.win 9).blk t).view.emb y) := by
  frame_out
  canon_tiles x hh
  all_goals simp only [View.ld_unit]
  all_goals have x0_lt : (x 0).val < 128 := (x 0).isLt
  all_goals have x1_lt : (x 1).val < 64 := (x 1).isLt
  all_goals have y0_lt : (y 0).val < 128 := (y 0).isLt
  · refine (rows256 0 _ slices_S256x64_o0_0_S128x64 (by decide) x).trans ((pt_dk1 m c t _ _ _ _ _ _ _ _ _ _ _ _ _ _ _ _ _ _ _ _ _ _).trans (sDk_at _ _ _ _ _ 0 (tn t) 1 _ _ _ _ ?_ ?_ ?_ ?_))
    all_goals blk_simp [idx_val t]
    all_goals simp [tn]
    all_goals omega
  · refine (rows256 0 _ slices_S256x64_o0_0_S128x64 (by decide) x).trans ((pt_dk0 m c t _ _ _ _ _ _ _ _ _ _ _ _ _ _ _ _ _ _ _ _ _ _).trans (sDk_at _ _ _ _ _ 0 (tn t) 0 _ _ _ _ ?_ ?_ ?_ ?_))
    all_goals blk_simp [idx_val t]
    all_goals simp [tn]
    all_goals omega

set_option maxHeartbeats 2000000 in
theorem point_9_B (c : Dev nD) (t : Fin cfg0.N) (h0 : ¬t.val % 32 = 0) (y) :
    (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2) y
      = (fun z => sDk (aQ m c) (aK m c) (aV m c) (aS m c) (aG m c) 0 (z 0) (z 1) : S4096x128.Idx → EReal) (((cfg0.win 9).blk t).view.emb y) := by
  frame_out
  canon_tiles x hh
  all_goals simp only [View.ld_unit]
  all_goals have x0_lt : (x 0).val < 128 := (x 0).isLt
  all_goals have x1_lt : (x 1).val < 64 := (x 1).isLt
  all_goals have y0_lt : (y 0).val < 128 := (y 0).isLt
  · refine (rows256 0 _ slices_S256x64_o0_0_S128x64 (by decide) x).trans ((pt_dk1 m c t _ _ _ _ _ _ _ _ _ _ _ _ _ _ _ _ _ _ _ _ _ _).trans (sDk_at _ _ _ _ _ 0 (tn t) 1 _ _ _ _ ?_ ?_ ?_ ?_))
    all_goals blk_simp [idx_val t]
    all_goals simp [tn]
    all_goals omega
  · refine (rows256 0 _ slices_S256x64_o0_0_S128x64 (by decide) x).trans ((pt_dk0 m c t _ _ _ _ _ _ _ _ _ _ _ _ _ _ _ _ _ _ _ _ _ _).trans (sDk_at _ _ _ _ _ 0 (tn t) 0 _ _ _ _ ?_ ?_ ?_ ?_))
    all_goals blk_simp [idx_val t]
    all_goals simp [tn]
    all_goals omega

theorem final_9 (c : Dev nD) : (dats m 0 c).arrAt 9 (cfgs 0).N = (fun z => sDk (aQ m c) (aK m c) (aV m c) (aS m c) (aG m c) 0 (z 0) (z 1) : S4096x128.Idx → EReal) := by
  refine (dats m 0 c).arrAt_eq_of_covers 9 _ (by decide +kernel) fun t hf y => ?_
  blk_simp; rw [after0_9]
  by_cases h : t.val % 32 = 0
  · rw [outsAt0_A m c t h]; dsimp only; exact point_9_A m c t h y
  · rw [outsAt0_B m c t h]; dsimp only; exact point_9_B m c t h y

set_option maxHeartbeats 2000000 in
theorem point_10_A (c : Dev nD) (t : Fin cfg0.N) (h0 : t.val % 32 = 0) (y) :
    (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t) (iblk m c 3 t) (iblk m c 4 t) (iblk m c 5 t) (iblk m c 6 t) (iblk m c 7 t) ) y
      = (fun z => sDk (aQ m c) (aK m c) (aV m c) (aS m c) (aG m c) 128 (z 0) (z 1) : S4096x128.Idx → EReal) (((cfg0.win 10).blk t).view.emb y) := by
  frame_out
  canon_tiles x hh
  all_goals simp only [View.ld_unit]
  all_goals have x0_lt : (x 0).val < 128 := (x 0).isLt
  all_goals have x1_lt : (x 1).val < 64 := (x 1).isLt
  all_goals have y0_lt : (y 0).val < 128 := (y 0).isLt
  · refine (rows256 128 _ slices_S256x64_o128_0_S128x64 (by decide) x).trans ((pt_dk1 m c t _ _ _ _ _ _ _ _ _ _ _ _ _ _ _ _ _ _ _ _ _ _).trans (sDk_at _ _ _ _ _ 128 (tn t) 1 _ _ _ _ ?_ ?_ ?_ ?_))
    all_goals blk_simp [idx_val t]
    all_goals simp [tn]
    all_goals omega
  · refine (rows256 128 _ slices_S256x64_o128_0_S128x64 (by decide) x).trans ((pt_dk0 m c t _ _ _ _ _ _ _ _ _ _ _ _ _ _ _ _ _ _ _ _ _ _).trans (sDk_at _ _ _ _ _ 128 (tn t) 0 _ _ _ _ ?_ ?_ ?_ ?_))
    all_goals blk_simp [idx_val t]
    all_goals simp [tn]
    all_goals omega

set_option maxHeartbeats 2000000 in
theorem point_10_B (c : Dev nD) (t : Fin cfg0.N) (h0 : ¬t.val % 32 = 0) (y) :
    (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2) y
      = (fun z => sDk (aQ m c) (aK m c) (aV m c) (aS m c) (aG m c) 128 (z 0) (z 1) : S4096x128.Idx → EReal) (((cfg0.win 10).blk t).view.emb y) := by
  frame_out
  canon_tiles x hh
  all_goals simp only [View.ld_unit]
  all_goals have x0_lt : (x 0).val < 128 := (x 0).isLt
  all_goals have x1_lt : (x 1).val < 64 := (x 1).isLt
  all_goals have y0_lt : (y 0).val < 128 := (y 0).isLt
  · refine (rows256 128 _ slices_S256x64_o128_0_S128x64 (by decide) x).trans ((pt_dk1 m c t _ _ _ _ _ _ _ _ _ _ _ _ _ _ _ _ _ _ _ _ _ _).trans (sDk_at _ _ _ _ _ 128 (tn t) 1 _ _ _ _ ?_ ?_ ?_ ?_))
    all_goals blk_simp [idx_val t]
    all_goals simp [tn]
    all_goals omega
  · refine (rows256 128 _ slices_S256x64_o128_0_S128x64 (by decide) x).trans ((pt_dk0 m c t _ _ _ _ _ _ _ _ _ _ _ _ _ _ _ _ _ _ _ _ _ _).trans (sDk_at _ _ _ _ _ 128 (tn t) 0 _ _ _ _ ?_ ?_ ?_ ?_))
    all_goals blk_simp [idx_val t]
    all_goals simp [tn]
    all_goals omega

theorem final_10 (c : Dev nD) : (dats m 0 c).arrAt 10 (cfgs 0).N = (fun z => sDk (aQ m c) (aK m c) (aV m c) (aS m c) (aG m c) 128 (z 0) (z 1) : S4096x128.Idx → EReal) := by
  refine (dats m 0 c).arrAt_eq_of_covers 10 _ (by decide +kernel) fun t hf y => ?_
  blk_simp; rw [after0_10]
  by_cases h : t.val % 32 = 0
  · rw [outsAt0_A m c t h]; dsimp only; exact point_10_A m c t h y
  · rw [outsAt0_B m c t h]; dsimp only; exact point_10_B m c t h y

set_option maxHeartbeats 2000000 in
theorem point_11_A (c : Dev nD) (t : Fin cfg0.N) (h0 : t.val % 32 = 0) (y) :
    (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t) (iblk m c 3 t) (iblk m c 4 t) (iblk m c 5 t) (iblk m c 6 t) (iblk m c 7 t) ) y
      = (fun z => sDv (aQ m c) (aK m c) (aS m c) (aG m c) 0 (z 0) (z 1) : S4096x128.Idx → EReal) (((cfg0.win 11).blk t).view.emb y) := by
  frame_out
  canon_tiles x hh
  all_goals simp only [View.ld_unit]
  all_goals have x0_lt : (x 0).val < 128 := (x 0).isLt
  all_goals have x1_lt : (x 1).val < 64 := (x 1).isLt
  all_goals have y0_lt : (y 0).val < 128 := (y 0).isLt
  · refine (rows256 0 _ slices_S256x64_o0_0_S128x64 (by decide) x).trans ((pt_dv1 m c t _ _ ⟨rfl, inb_S128x128_S128x64_0_64⟩ ⟨rfl, inb_S128x128_S128x64_0_64⟩ _ _ _ _ _ _ _ _ _ _ _ _ _ _ _ _ _ _).trans (sDv_at _ _ _ _ 0 (tn t) 1 _ _ _ _ ?_ ?_ ?_ ?_))
    all_goals blk_simp [idx_val t]
    all_goals simp [tn]
    all_goals omega
  · refine (rows256 0 _ slices_S256x64_o0_0_S128x64 (by decide) x).trans ((pt_dv0 m c t _ _ ⟨rfl, inb_S128x128_S128x64_0_0⟩ ⟨rfl, inb_S128x128_S128x64_0_0⟩ _ _ _ _ _ _ _ _ _ _ _ _ _ _ _ _ _ _).trans (sDv_at _ _ _ _ 0 (tn t) 0 _ _ _ _ ?_ ?_ ?_ ?_))
    all_goals blk_simp [idx_val t]
    all_goals simp [tn]
    all_goals omega

set_option maxHeartbeats 2000000 in
theorem point_11_B (c : Dev nD) (t : Fin cfg0.N) (h0 : ¬t.val % 32 = 0) (y) :
    (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2) y
      = (fun z => sDv (aQ m c) (aK m c) (aS m c) (aG m c) 0 (z 0) (z 1) : S4096x128.Idx → EReal) (((cfg0.win 11).blk t).view.emb y) := by
  frame_out
  canon_tiles x hh
  all_goals simp only [View.ld_unit]
  all_goals have x0_lt : (x 0).val < 128 := (x 0).isLt
  all_goals have x1_lt : (x 1).val < 64 := (x 1).isLt
  all_goals have y0_lt : (y 0).val < 128 := (y 0).isLt
  · refine (rows256 0 _ slices_S256x64_o0_0_S128x64 (by decide) x).trans ((pt_dv1 m c t _ _ ⟨rfl, inb_S128x128_S128x64_0_64⟩ ⟨rfl, inb_S128x128_S128x64_0_64⟩ _ _ _ _ _ _ _ _ _ _ _ _ _ _ _ _ _ _).trans (sDv_at _ _ _ _ 0 (tn t) 1 _ _ _ _ ?_ ?_ ?_ ?_))
    all_goals blk_simp [idx_val t]
    all_goals simp [tn]
    all_goals omega
  · refine (rows256 0 _ slices_S256x64_o0_0_S128x64 (by decide) x).trans ((pt_dv0 m c t _ _ ⟨rfl, inb_S128x128_S128x64_0_0⟩ ⟨rfl, inb_S128x128_S128x64_0_0⟩ _ _ _ _ _ _ _ _ _ _ _ _ _ _ _ _ _ _).trans (sDv_at _ _ _ _ 0 (tn t) 0 _ _ _ _ ?_ ?_ ?_ ?_))
    all_goals blk_simp [idx_val t]
    all_goals simp [tn]
    all_goals omega

theorem final_11 (c : Dev nD) : (dats m 0 c).arrAt 11 (cfgs 0).N = (fun z => sDv (aQ m c) (aK m c) (aS m c) (aG m c) 0 (z 0) (z 1) : S4096x128.Idx → EReal) := by
  refine (dats m 0 c).arrAt_eq_of_covers 11 _ (by decide +kernel) fun t hf y => ?_
  blk_simp; rw [after0_11]
  by_cases h : t.val % 32 = 0
  · rw [outsAt0_A m c t h]; dsimp only; exact point_11_A m c t h y
  · rw [outsAt0_B m c t h]; dsimp only; exact point_11_B m c t h y

set_option maxHeartbeats 2000000 in
theorem point_12_A (c : Dev nD) (t : Fin cfg0.N) (h0 : t.val % 32 = 0) (y) :
    (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t) (iblk m c 3 t) (iblk m c 4 t) (iblk m c 5 t) (iblk m c 6 t) (iblk m c 7 t) ) y
      = (fun z => sDv (aQ m c) (aK m c) (aS m c) (aG m c) 128 (z 0) (z 1) : S4096x128.Idx → EReal) (((cfg0.win 12).blk t).view.emb y) := by
  frame_out
  canon_tiles x hh
  all_goals simp only [View.ld_unit]
  all_goals have x0_lt : (x 0).val < 128 := (x 0).isLt
  all_goals have x1_lt : (x 1).val < 64 := (x 1).isLt
  all_goals have y0_lt : (y 0).val < 128 := (y 0).isLt
  · refine (rows256 128 _ slices_S256x64_o128_0_S128x64 (by decide) x).trans ((pt_dv1 m c t _ _ ⟨rfl, inb_S128x128_S128x64_0_64⟩ ⟨rfl, inb_S128x128_S128x64_0_64⟩ _ _ _ _ _ _ _ _ _ _ _ _ _ _ _ _ _ _).trans (sDv_at _ _ _ _ 128 (tn t) 1 _ _ _ _ ?_ ?_ ?_ ?_))
    all_goals blk_simp [idx_val t]
    all_goals simp [tn]
    all_goals omega
  · refine (rows256 128 _ slices_S256x64_o128_0_S128x64 (by decide) x).trans ((pt_dv0 m c t _ _ ⟨rfl, inb_S128x128_S128x64_0_0⟩ ⟨rfl, inb_S128x128_S128x64_0_0⟩ _ _ _ _ _ _ _ _ _ _ _ _ _ _ _ _ _ _).trans (sDv_at _ _ _ _ 128 (tn t) 0 _ _ _ _ ?_ ?_ ?_ ?_))
    all_goals blk_simp [idx_val t]
    all_goals simp [tn]
    all_goals omega

set_option maxHeartbeats 2000000 in
theorem point_12_B (c : Dev nD) (t : Fin cfg0.N) (h0 : ¬t.val % 32 = 0) (y) :
    (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2) y
      = (fun z => sDv (aQ m c) (aK m c) (aS m c) (aG m c) 128 (z 0) (z 1) : S4096x128.Idx → EReal) (((cfg0.win 12).blk t).view.emb y) := by
  frame_out
  canon_tiles x hh
  all_goals simp only [View.ld_unit]
  all_goals have x0_lt : (x 0).val < 128 := (x 0).isLt
  all_goals have x1_lt : (x 1).val < 64 := (x 1).isLt
  all_goals have y0_lt : (y 0).val < 128 := (y 0).isLt
  · refine (rows256 128 _ slices_S256x64_o128_0_S128x64 (by decide) x).trans ((pt_dv1 m c t _ _ ⟨rfl, inb_S128x128_S128x64_0_64⟩ ⟨rfl, inb_S128x128_S128x64_0_64⟩ _ _ _ _ _ _ _ _ _ _ _ _ _ _ _ _ _ _).trans (sDv_at _ _ _ _ 128 (tn t) 1 _ _ _ _ ?_ ?_ ?_ ?_))
    all_goals blk_simp [idx_val t]
    all_goals simp [tn]
    all_goals omega
  · refine (rows256 128 _ slices_S256x64_o128_0_S128x64 (by decide) x).trans ((pt_dv0 m c t _ _ ⟨rfl, inb_S128x128_S128x64_0_0⟩ ⟨rfl, inb_S128x128_S128x64_0_0⟩ _ _ _ _ _ _ _ _ _ _ _ _ _ _ _ _ _ _).trans (sDv_at _ _ _ _ 128 (tn t) 0 _ _ _ _ ?_ ?_ ?_ ?_))
    all_goals blk_simp [idx_val t]
    all_goals simp [tn]
    all_goals omega

theorem final_12 (c : Dev nD) : (dats m 0 c).arrAt 12 (cfgs 0).N = (fun z => sDv (aQ m c) (aK m c) (aS m c) (aG m c) 128 (z 0) (z 1) : S4096x128.Idx → EReal) := by
  refine (dats m 0 c).arrAt_eq_of_covers 12 _ (by decide +kernel) fun t hf y => ?_
  blk_simp; rw [after0_12]
  by_cases h : t.val % 32 = 0
  · rw [outsAt0_A m c t h]; dsimp only; exact point_12_A m c t h y
  · rw [outsAt0_B m c t h]; dsimp only; exact point_12_B m c t h y

end Cert.KernelIdeal.Value
-- ==== Proof.KSink.lean ====
module

public import proofs.«01_k».proof.Proof.KRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen Cert.Attn

variable (m : (ℓ : Loc nD τ sig) → Buf (Elt Ideal) ℓ)

theorem hzero_13 (j : S1x128.Idx) : k0_pay7 (F := Ideal) j = 0 := by
  pointwise! [k0_pay7]

theorem hpay_13 (v118 : FVec Ideal S1x128 .f32) (v213 : FVec Ideal S1x128 .f32) (v247 : Vec Ideal S1x128 .f32) (j : S1x128.Idx) :
    k0_pay6 v118 v213 v247 j = v247 j + k0_pay6 v118 v213 (fun _ => 0) j := by
  pointwise [k0_pay6]

/-- What a point adds: the two groups' parts. -/
theorem part_13 (v93 v213 : FVec Ideal S1x128 .f32) (l : Fin 128) :
    k0_pay6 (k0_pay39 k0_pay9 v93) v213 (fun _ => 0) (ix2 0 l) = v93 (ix2 0 l) + v213 (ix2 0 l) := by
  pointwise [k0_pay6, k0_pay39, k0_pay9]

set_option maxHeartbeats 2000000 in
theorem final_13 (c : Dev nD) : (dats m 0 c).arrAt 13 (cfgs 0).N = (fun z => sSink (aQ m c) (aK m c) (aV m c) (aS m c) (aG m c) (z 1) : S1x128.Idx → EReal) := by
  refine (dats m 0 c).arrAt_eq_of_covers 13 _ (by decide +kernel) fun t hf y => ?_
  blk_simp
  rw [after0_13, Pipeline.eq_sum_fin_of_reset_step_apply_of_flush (fun n h => (outsAt0 m c n h).2.2.2.2.2) 32 (fun _ => 0) _
    (fun t h j => by rw [outsAt0_A m c t h]; frame_out; rw [hpay_13, hzero_13])
    (fun t h j => by rw [outsAt0_B m c t h]; frame_out; rw [hpay_13])
    t ((flush0_13 t).mp hf) _, zero_add]
  obtain ⟨a, l, rfl⟩ : ∃ a l, y = ix2 a l := ⟨y 0, y 1, eq_ix2 y⟩
  obtain rfl : a = 0 := Subsingleton.elim _ _
  have ht := t_lt t
  have hl : ((win0_13.blk t).view.emb (ix2 0 l) 1 : Fin 128) = l := by
    refine Fin.ext ?_
    blk_simp [idx_val t]
  refine Eq.trans ?_ (congrArg (sSink (aQ m c) (aK m c) (aV m c) (aS m c) (aG m c)) hl).symm
  rw [sSink]
  refine Fin.sum_fin_congr fun s => ?_
  have hs : tn ⟨32 * (t.val / 32) + s.val, Pipeline.run_point_lt_of_flush t ((flush0_13 t).mp hf) s⟩ = s := Fin.ext (by dsimp only [tn]; omega)
  simp only [View.ld_unit]
  refine (part_13 _ _ l).trans ?_
  refine (congrArg₂ (· + ·) (pt_sk0 m c _ _ _ _ _ _ _ _ _ _ _ _ _ _ _ _ _ _ _ _ _ l) (pt_sk1 m c _ _ _ _ _ _ _ _ _ _ _ _ _ _ _ _ _ _ _ _ _ l)).trans ?_
  rw [hs]
  rfl

end Cert.KernelIdeal.Value
-- ==== Proof.RRead.lean ====
module

public import proofs.«01_k».proof.Proof.Spec
public import proofs.«01_k».proof.Proof.KBias
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem
open scoped BigOperators

namespace Cert.ReferenceIdeal.Read

open Cert.ReferenceIdeal Cert.Attn

variable (x0 : (⟨S4096x1024, .f32⟩ : BufTy).Contents (Elt Ideal)) (x1 : (⟨S4096x128, .f32⟩ : BufTy).Contents (Elt Ideal))
  (x2 : (⟨S4096x7680, .f32⟩ : BufTy).Contents (Elt Ideal)) (x3 : (⟨S1x128, .f32⟩ : BufTy).Contents (Elt Ideal))
  (x4 : (⟨S4096x1024, .f32⟩ : BufTy).Contents (Elt Ideal))

/-! ## The arrays as functions -/

def rQ (x : FVec Ideal S4096x1024 .f32) (i : Fin 4096) (e : Fin 1024) : EReal := x (ix2 i e)
def rK (x : FVec Ideal S4096x128 .f32) (i : Fin 4096) (e : Fin 128) : EReal := x (ix2 i e)
def rV (x : FVec Ideal S4096x7680 .f32) (i : Fin 4096) (e : Fin 128) : EReal := x (ix2 i ⟨7424 + e.val, by omega⟩)
def rS (x : FVec Ideal S1x128 .f32) (e : Fin 128) : EReal := x (ix2 0 e)

/-- Row `128 g + i` of a group. -/
def gi (g : Fin 8) (i : Fin 128) : Fin 1024 := ⟨128 * g.val + i.val, by omega⟩

theorem and_if (A B : Prop) [Decidable A] [Decidable B] :
    IntOp.andi (if A then 1#1 else 0#1) (if B then 1#1 else 0#1) = if A ∧ B then 1#1 else 0#1 := by
  by_cases hA : A <;> by_cases hB : B <;> simp [hA, hB, IntOp.andi]

theorem word_block : ∀ (n : Fin 32) (j : Fin 256),
    IntOp.cmpi CmpIPredicate.sge (IntOp.addi (IntOp.muli (BitVec.ofNat 32 n.val) 128#32) (BitVec.ofNat 32 j.val)) 128#32
      = if 128 ≤ 128 * n.val + j.val then 1#1 else 0#1 := by
  decide +kernel

/-! ## Sums over a group's rows -/

theorem sum_gi (f : Fin 1024 → EReal) : ∑ r, f r = ∑ g : Fin 8, ∑ i : Fin 128, f (gi g i) := by
  rw [← (finProdFinEquiv (m := 8) (n := 128)).sum_comp f, Fintype.sum_prod_type]
  refine Finset.sum_congr rfl fun g _ => Finset.sum_congr rfl fun i _ => congrArg f (Fin.ext ?_)
  simp [finProdFinEquiv, gi, Nat.add_comm]

theorem gi_div (g : Fin 8) (i : Fin 128) : (gi g i).val / 128 = g.val := by simp only [gi]; omega

theorem gi_mod (g : Fin 8) (i : Fin 128) : (gi g i).val % 128 = i.val := by simp only [gi]; omega

theorem sum_head (f : Fin 1024 → EReal) (g0 : Fin 8) (c l : ℕ) (hl : g0.val + c = l) :
    (∑ r : Fin 1024, if r.val / 128 + c = l then f r else 0) = ∑ i, f (gi g0 i) := by
  rw [sum_gi, Finset.sum_eq_single g0]
  · refine Finset.sum_congr rfl fun i _ => ?_
    rw [gi_div, if_pos hl]
  · intro g _ hg
    refine Finset.sum_eq_zero fun i _ => ?_
    rw [gi_div, if_neg]
    intro h
    exact hg (Fin.ext (by omega))
  · intro h
    exact absurd (Finset.mem_univ g0) h

theorem sum_nohead (f : Fin 1024 → EReal) (c l : ℕ) (hl : ∀ g : Fin 8, g.val + c ≠ l) :
    (∑ r : Fin 1024, if r.val / 128 + c = l then f r else 0) = 0 := by
  rw [sum_gi]
  refine Finset.sum_eq_zero fun g _ => Finset.sum_eq_zero fun i _ => ?_
  rw [gi_div, if_neg (hl g)]

/-- The sum over the blocks and the queries, for each head. -/
theorem sum_heads (x : FVec Ideal S32x2x8x128x1 .f32) (z : EReal) (a : Fin 2) (b : Fin 8) :
    Ideal.hostReduceAdd Gen.reducesTo_S32x2x8x128x1_S2x8x1_d0_3 x z (ix3 a b 0) = z + ∑ n : Fin 32, ∑ i : Fin 128, x (ix5 n a b i 0) := by
  have fiber : ∀ i : S32x2x8x128x1.Idx, Shape.ReducesTo.drop Gen.reducesTo_S32x2x8x128x1_S2x8x1_d0_3 i = ix3 a b 0
      ↔ ∃ k : Fin 32 × Fin 128, ix5 k.1 a b k.2 0 = i := by
    intro i
    constructor
    · intro hi
      refine ⟨(i 0, i 3), ?_⟩
      have h0 : (i 1).val = a.val := congrArg (fun q : S2x8x1.Idx => (q 0).val) hi
      have h1 : (i 2).val = b.val := congrArg (fun q : S2x8x1.Idx => (q 1).val) hi
      have h2 : (i 4).val < 1 := (i 4).isLt
      funext t
      fin_cases t
      · rfl
      · exact Fin.ext h0.symm
      · exact Fin.ext h1.symm
      · rfl
      · exact Fin.ext (by show 0 = (i 4).val; omega)
    · rintro ⟨k, rfl⟩
      funext t
      fin_cases t <;> rfl
  have inj : Function.Injective (fun k : Fin 32 × Fin 128 => (ix5 k.1 a b k.2 0 : S32x2x8x128x1.Idx)) := by
    intro k k' hk
    have h0 : k.1.val = k'.1.val := congrArg (fun q : S32x2x8x128x1.Idx => (q 0).val) hk
    have h1 : k.2.val = k'.2.val := congrArg (fun q : S32x2x8x128x1.Idx => (q 3).val) hk
    exact Prod.ext (Fin.ext h0) (Fin.ext h1)
  have := Finset.sum_filter_eq_sum_of_fiber (M := EReal) (ι := S32x2x8x128x1.Idx) (fun i => Shape.ReducesTo.drop Gen.reducesTo_S32x2x8x128x1_S2x8x1_d0_3 i = ix3 a b 0)
    (fun k : Fin 32 × Fin 128 => ix5 k.1 a b k.2 0) inj fiber x
  rw [Fintype.sum_prod_type] at this
  exact congrArg (z + ·) this

/-! ## The bands, the mask and the rows -/

variable (n : Fin 32) (h : Fin 2) (g : Fin 8) (i : Fin 128) (j : Fin 256) (d : Fin 64)

theorem r9 : val_main_v9 x0 (ix5 n i h g d) = bQ (rQ x0) n h (gi g i) d := by
  pointwise [val_main_v9]
  rw [bQ, rQ]
  congr 2
  · exact Fin.ext (by simp only [gi_mod]; omega)
  · exact Fin.ext (by simp only [gi_div]; omega)

theorem r97 : val_main_v97 x4 (ix5 n i h g d) = bQ (rQ x4) n h (gi g i) d := r9 x4 n h g i d

theorem r98 : val_main_v98 x4 (ix5 n h d g i) = bQ (rQ x4) n h (gi g i) d := by
  pointwise [val_main_v98]
  exact r97 x4 n h g i d

theorem r12 : val_main_v12 x1 (ix4 n j h d) = bK (rK x1) n h j d := by
  pointwise [val_main_v12, val_main_v11, val_main_v10, val_main_v4, val_main_v3, val_main_v2, val_main_cst]
  unfold bK rK
  split_ifs
  all_goals first
    | exact absurd rfl (by assumption)
    | exact (dif_neg (by omega)).symm
    | (rw [dif_pos (by omega)]
       congr 2 <;> exact Fin.ext (by dsimp only; omega))
    | rfl
    | (exfalso; omega)
    | (congr 2 <;> exact Fin.ext (by dsimp only; omega))

theorem r15 : val_main_v15 x2 (ix4 n j h d) = bK (rV x2) n h j d := by
  pointwise [val_main_v15, val_main_v14, val_main_v13, val_main_v8, val_main_v7, val_main_v6, val_main_v5, val_main_v0, val_main_cst_0]
  unfold bK rV
  split_ifs
  all_goals first
    | exact absurd rfl (by assumption)
    | exact (dif_neg (by omega)).symm
    | (rw [dif_pos (by omega)]
       congr 2 <;> exact Fin.ext (by dsimp only; omega))
    | rfl
    | (exfalso; omega)
    | (congr 2 <;> exact Fin.ext (by dsimp only; omega))

theorem r49m : val_main_v49_1 (F := Ideal) (ix5 n h g i j) = if j.val ≤ i.val + 128 ∧ i.val < j.val ∧ 128 ≤ 128 * n.val + j.val then 1#1 else 0#1 := by
  pointwise [val_main_v49_1, val_main_v48, val_main_v47, val_main_v46, val_main_v45, val_main_v44, val_main_v43, val_main_v42, val_main_c_5, val_main_v41,
    val_main_v40, val_main_v39, val_main_v38, val_main_v37, val_main_v36, val_main_c_4, val_main_v35, val_main_v34, val_main_v33, val_main_c_3, val_main_v32,
    val_main_v31, val_main_c_2, val_main_v30, val_main_v29, val_main_v28, val_main_v27, val_main_v26, val_main_v25, val_main_v24, val_main_c, val_main_v23,
    val_main_v22, val_main_v21, val_main_v20]
  rw [Cert.KernelIdeal.Value.word_win, word_block, and_if]
  simp only [and_assoc]

/-- The scores of a row. -/
abbrev sc : Fin 256 → EReal := hS (bQ (rQ x0) n h) (bK (rK x1) n h) (bB n) (gi g i)

/-- The sink of a row. -/
abbrev sk : EReal := bS (rS x3) h (gi g i)

/-- The gradient of the row's probabilities. -/
abbrev gr : Fin 256 → EReal := hG (bQ (rQ x4) n h) (bK (rV x2) n h) (gi g i)

theorem r49 : val_main_v49_0 x0 x1 (ix5 n h g i j) = sc x0 x1 n h g i j := by
  pointwise [val_main_v49_0, val_main_v19, val_main_v18, val_main_cst_1, val_main_call0_v2, val_main_call0_v0, val_main_cst_6, val_main_v17, val_main_v16]
  show Scalar.select (val_main_v49_1 (F := Ideal) (ix5 n h g i j))
      ((∑ x, val_main_v12 x1 (ix4 n j h x) * val_main_v9 x0 (ix5 n i h g x)) * c8) (Ideal.ofBits .f32 0xFF800000#32) = _
  simp only [r49m, r12, r9, bits_bot]
  rw [sc, hS, bB, gi_mod, Finset.sum_congr rfl fun d _ => mul_comm (bK (rK x1) n h j d) (bQ (rQ x0) n h (gi g i) d)]
  split_ifs with hm
  · exact (add_zero _).symm
  · exact (EReal.add_bot _).symm

theorem r52 : val_main_v52 x3 (ix5 0 h g 0 0) = sk x3 h g i := by
  pointwise [val_main_v52, val_main_v51, val_main_v50]
  rw [sk, bS, rS]
  congr 2
  exact Fin.ext (by simp only [gi_div]; omega)

theorem r53 : val_main_v53 x0 x1 (ix4 n h g i) = rTop (sc x0 x1 n h g i) := by
  pointwise [val_main_v53, val_main_cst_7]
  simp only [r49, bits_bot]
  rfl

theorem r57 : val_main_v57 x0 x1 (ix5 n h g i j) = rInd (sc x0 x1 n h g i) j := by
  rw [rInd]
  pointwise [val_main_v57, val_main_v56, val_main_v55, val_main_v54]
  rw [r49, r53]
  by_cases hc : sc x0 x1 n h g i j = rTop (sc x0 x1 n h g i)
  · rw [if_pos hc, decide_eq_true hc]
    show ((((1#1 : BitVec 1).toNat : ℝ) : ℝ) : EReal) = 1
    simp
  · rw [if_neg hc, decide_eq_false hc]
    show ((((0#1 : BitVec 1).toNat : ℝ) : ℝ) : EReal) = 0
    simp

end Cert.ReferenceIdeal.Read
-- ==== Proof.RRow.lean ====
module

public import proofs.«01_k».proof.Proof.RRead
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem
open scoped BigOperators

namespace Cert.ReferenceIdeal.Read

open Cert.ReferenceIdeal Cert.Attn

variable (x0 : (⟨S4096x1024, .f32⟩ : BufTy).Contents (Elt Ideal)) (x1 : (⟨S4096x128, .f32⟩ : BufTy).Contents (Elt Ideal))
  (x2 : (⟨S4096x7680, .f32⟩ : BufTy).Contents (Elt Ideal)) (x3 : (⟨S1x128, .f32⟩ : BufTy).Contents (Elt Ideal))
  (x4 : (⟨S4096x1024, .f32⟩ : BufTy).Contents (Elt Ideal))

variable (n : Fin 32) (h : Fin 2) (g : Fin 8) (i : Fin 128) (j : Fin 256) (d : Fin 64)

theorem r58 : val_main_v58 x0 x1 (ix4 n h g i) = rCount (sc x0 x1 n h g i) := by
  pointwise [val_main_v58, val_main_cst_8]
  exact Fin.sum_fin_congr fun x => r57 x0 x1 n h g i x

theorem r99 : val_main_v99 x2 x4 (ix5 n h g i j) = gr x2 x4 n h g i j := by
  pointwise [val_main_v99]
  simp only [r98, r15]
  rfl

theorem r59 : val_main_v59 x0 x1 (ix5 n h g i 0) = rTop (sc x0 x1 n h g i) := by
  pointwise [val_main_v59]
  exact r53 x0 x1 n h g i

theorem r60 : val_main_v60 x3 (ix5 n h g i 0) = sk x3 h g i := by
  pointwise [val_main_v60]
  exact r52 x3 h g i

theorem r61 : val_main_v61 x0 x1 x3 (ix5 n h g i 0) = rM (sc x0 x1 n h g i) (sk x3 h g i) := by
  have hmax : ∀ a b c d : EReal, a = c → b = d → FloatOps.maximumf (F := Ideal) (φ := .f32) a b = max c d := by
    rintro a b c d rfl rfl
    rfl
  rw [val_main_v61_apply]
  exact hmax _ _ _ _ (r59 x0 x1 n h g i) (r60 x3 n h g i)

theorem r82 : val_main_v82 x0 x1 x3 (ix5 n h g i j) = rP (sc x0 x1 n h g i) (sk x3 h g i) j := by
  pointwise [val_main_v82, val_main_v81, val_main_v80]
  rw [r49, r61, rP]

theorem r87 : val_main_v87 x0 x1 x3 (ix5 n h g i 0) = rE (sc x0 x1 n h g i) (sk x3 h g i) := by
  pointwise [val_main_v87, val_main_v86, val_main_v85]
  rw [r52 x3 h g i, r61, rE]

theorem r88 : val_main_v88 x0 x1 x3 (ix5 n h g i 0) = rDen (sc x0 x1 n h g i) (sk x3 h g i) := by
  pointwise [val_main_v88, val_main_v84, val_main_v83, val_main_cst_15]
  simp only [r82, r87]
  rfl

theorem r90 : val_main_v90 x0 x1 x3 (ix5 n h g i j) = rProb (sc x0 x1 n h g i) (sk x3 h g i) j := by
  pointwise [val_main_v90, val_main_v89]
  rw [r82, r88, rProb]

theorem r93 : val_main_v93 x0 x1 x3 (ix5 n h g i 0) = rInv (sc x0 x1 n h g i) (sk x3 h g i) := by
  pointwise [val_main_v93, val_main_v92, val_main_v91, val_main_cst_16]
  rw [r88, rInv]

theorem r107 : val_main_v107 x0 x1 x2 x3 x4 (ix5 n h g i 0) = rDd (sc x0 x1 n h g i) (gr x2 x4 n h g i) (sk x3 h g i) := by
  pointwise [val_main_v107, val_main_v106, val_main_v105, val_main_cst_17, val_main_v104, val_main_v103, val_main_v102]
  simp only [r99, r93, r82]
  rfl

theorem r110 : val_main_v110 x0 x1 x2 x3 x4 (ix5 n h g i 0) = rSink (sc x0 x1 n h g i) (gr x2 x4 n h g i) (sk x3 h g i) := by
  pointwise [val_main_v110]
  rw [r107, r87]
  rfl

theorem r117 : val_main_v117 x0 x1 x2 x3 x4 (ix5 n h g i j) = rDs (sc x0 x1 n h g i) (gr x2 x4 n h g i) (sk x3 h g i) j := by
  pointwise [val_main_v117, val_main_v116, val_main_v115, val_main_v114, val_main_cst_19, val_main_v109, val_main_v108]
  simp only [Fin.sum_univ_one, r99, r88, r107, r82]
  rfl

theorem r121 : val_main_v121 x0 x1 x2 x3 x4 (ix5 n h g i 0) = rTot (sc x0 x1 n h g i) (gr x2 x4 n h g i) (sk x3 h g i) := by
  pointwise [val_main_v121, val_main_v113, val_main_v120, val_main_v119, val_main_cst_20, val_main_v118]
  simp only [r110, r117]
  rfl

/-! ## The gradient through the shift is zero -/

variable (hv : ∀ a e, ∃ x : ℝ, rV x2 a e = x) (hg : ∀ a e, ∃ x : ℝ, rQ x4 a e = x)

include hv hg

theorem gr_real : ∃ x : ℝ, gr x2 x4 n h g i j = x := by
  have hb : ∀ d, ∃ x : ℝ, bK (rV x2) n h j d = x := by
    intro d
    rw [bK]
    split_ifs
    · exact hv _ _
    · exact ⟨0, rfl⟩
  choose y hy using hb
  choose w hw using fun d => (show ∃ x : ℝ, bQ (rQ x4) n h (gi g i) d = x from hg _ _)
  refine ⟨∑ d, w d * y d, ?_⟩
  rw [gr, hG, coe_sum]
  refine Finset.sum_congr rfl fun d _ => ?_
  rw [hy, hw, EReal.coe_mul]

theorem r121z : val_main_v121 x0 x1 x2 x3 x4 (ix5 n h g i 0) = (0 : EReal) :=
  (r121 x0 x1 x2 x3 x4 n h g i).trans (rTot_eq_zero _ _ _ fun j => gr_real x2 x4 n h g i j hv hg)

theorem r122z : val_main_v122 x0 x1 x2 x3 x4 (ix5 n h g i 0) = (0 : EReal) := by
  pointwise [val_main_v122]
  rw [r121z x0 x1 x2 x3 x4 n h g i hv hg]
  exact zero_mul _

theorem r126z : val_main_v126 x0 x1 x2 x3 x4 (ix5 n h g i 0) = (0 : EReal) := by
  pointwise [val_main_v126]
  rw [r121z x0 x1 x2 x3 x4 n h g i hv hg]
  exact zero_mul _

theorem r127z : val_main_v127 x0 x1 x2 x3 x4 (ix4 n h g i) = (0 : EReal) := by
  pointwise [val_main_v127, val_main_cst_22]
  simp only [Fin.sum_univ_one]
  exact r126z x0 x1 x2 x3 x4 n h g i hv hg

theorem r128z : val_main_v128 x0 x1 x2 x3 x4 (ix4 n h g i) = (0 : EReal) := by
  pointwise [val_main_v128]
  rw [r127z x0 x1 x2 x3 x4 n h g i hv hg, r58]
  show Ideal.div 0 (rCount _) = 0
  rw [Ideal.div, if_neg (rCount_ne_zero _)]
  exact zero_mul _

theorem r131 : val_main_v131 x0 x1 x2 x3 x4 (ix5 n h g i j) = rDs (sc x0 x1 n h g i) (gr x2 x4 n h g i) (sk x3 h g i) j := by
  pointwise [val_main_v131, val_main_v130, val_main_v129]
  rw [r117, r128z x0 x1 x2 x3 x4 n h g i hv hg]
  refine (congrArg (rDs _ _ _ _ + ·) (zero_mul _)).trans (add_zero _)

theorem r137 : val_main_v137 x0 x1 x2 x3 x4 (ix5 n h g i j)
    = hDs (bQ (rQ x0) n h) (bQ (rQ x4) n h) (bK (rK x1) n h) (bK (rV x2) n h) (bB n) (bS (rS x3) h) (gi g i) j := by
  pointwise [val_main_v137, val_main_v136, val_main_v135, val_main_call1_v0, val_main_call1_cst, val_main_cst_24]
  rw [r131 x0 x1 x2 x3 x4 n h g i j hv hg, r49m, hDs]
  split_ifs with hm
  · rfl
  · rw [rDs_bot _ _ _ (hS_bot _ _ _ (by rw [bB, gi_mod, if_neg hm])), zero_mul, zero_mul]
    rfl

end Cert.ReferenceIdeal.Read
-- ==== Proof.ROut.lean ====
module

public import proofs.«01_k».proof.Proof.RRow
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem
open scoped BigOperators

namespace Cert.ReferenceIdeal.Read

open Cert.ReferenceIdeal Cert.Attn

variable (x0 : (⟨S4096x1024, .f32⟩ : BufTy).Contents (Elt Ideal)) (x1 : (⟨S4096x128, .f32⟩ : BufTy).Contents (Elt Ideal))
  (x2 : (⟨S4096x7680, .f32⟩ : BufTy).Contents (Elt Ideal)) (x3 : (⟨S1x128, .f32⟩ : BufTy).Contents (Elt Ideal))
  (x4 : (⟨S4096x1024, .f32⟩ : BufTy).Contents (Elt Ideal))

variable (n : Fin 32) (h : Fin 2) (g : Fin 8) (i : Fin 128) (j : Fin 256) (d : Fin 64)
  (hv : ∀ a e, ∃ x : ℝ, rV x2 a e = x) (hg : ∀ a e, ∃ x : ℝ, rQ x4 a e = x)

/-! ## The results -/

theorem r101 : val_main_v101 x0 x1 x3 x4 (ix4 n j h d) = hDv (bQ (rQ x0) n h) (bQ (rQ x4) n h) (bK (rK x1) n h) (bB n) (bS (rS x3) h) j d := by
  pointwise [val_main_v101, val_main_v100]
  rw [hDv, sum_gi]
  refine Fin.sum_fin_congr fun g => Fin.sum_fin_congr fun i => ?_
  rw [r98, r90]
  exact mul_comm _ _

theorem out_146 : val_main_v146 x0 x1 x3 x4 = fun z => sDv (rQ x0) (rK x1) (rS x3) (rQ x4) 0 (z 0) (z 1) := by
  funext z
  obtain ⟨a, b, rfl⟩ : ∃ a b, z = ix2 a b := ⟨z 0, z 1, eq_ix2 z⟩
  pointwise [val_main_v146, val_main_v143]
  rw [r101]
  exact sDv_at _ _ _ _ 0 _ _ _ _ _ _ (by simp) (by simp) (by simp) (by simp)

theorem out_145 : val_main_v145 x0 x1 x3 x4 = fun z => sDv (rQ x0) (rK x1) (rS x3) (rQ x4) 128 (z 0) (z 1) := by
  funext z
  obtain ⟨a, b, rfl⟩ : ∃ a b, z = ix2 a b := ⟨z 0, z 1, eq_ix2 z⟩
  pointwise [val_main_v145, val_main_v144]
  rw [r101]
  exact sDv_at _ _ _ _ 128 _ _ _ _ _ _ (by simp) (by simp) (by simp) (by simp)

include hv hg

theorem out_151 : val_main_v151 x0 x1 x2 x3 x4 = fun z => sDq (rQ x0) (rK x1) (rV x2) (rS x3) (rQ x4) (z 0) (z 1) := by
  funext z
  obtain ⟨a, b, rfl⟩ : ∃ a b, z = ix2 a b := ⟨z 0, z 1, eq_ix2 z⟩
  pointwise [val_main_v151, val_main_v140, val_main_v139, val_main_v138]
  refine Eq.trans (Fin.sum_fin_congr fun x => ?_) (sDq_at (rQ x0) (rK x1) (rV x2) (rS x3) (rQ x4) ⟨a.val / 128, by omega⟩ ⟨b.val / 512, by omega⟩
    (gi ⟨b.val / 64 % 8, by omega⟩ ⟨a.val % 128, by omega⟩) ⟨b.val % 64, by omega⟩ a b rfl rfl rfl rfl)
  rw [r137 x0 x1 x2 x3 x4 _ _ _ _ _ hv hg, r12]

theorem r142 : val_main_v142 x0 x1 x2 x3 x4 (ix4 n j h d)
    = hDk (bQ (rQ x0) n h) (bQ (rQ x4) n h) (bK (rK x1) n h) (bK (rV x2) n h) (bB n) (bS (rS x3) h) j d := by
  pointwise [val_main_v142, val_main_v141, val_main_v138]
  rw [hDk, sum_gi, Finset.sum_comm]
  refine Fin.sum_fin_congr fun g => Fin.sum_fin_congr fun i => ?_
  rw [r137 x0 x1 x2 x3 x4 _ _ _ _ _ hv hg, r9]

theorem out_150 : val_main_v150 x0 x1 x2 x3 x4 = fun z => sDk (rQ x0) (rK x1) (rV x2) (rS x3) (rQ x4) 0 (z 0) (z 1) := by
  funext z
  obtain ⟨a, b, rfl⟩ : ∃ a b, z = ix2 a b := ⟨z 0, z 1, eq_ix2 z⟩
  pointwise [val_main_v150, val_main_v147]
  rw [r142 x0 x1 x2 x3 x4 _ _ _ _ hv hg]
  exact sDk_at _ _ _ _ _ 0 _ _ _ _ _ _ (by simp) (by simp) (by simp) (by simp)

theorem out_149 : val_main_v149 x0 x1 x2 x3 x4 = fun z => sDk (rQ x0) (rK x1) (rV x2) (rS x3) (rQ x4) 128 (z 0) (z 1) := by
  funext z
  obtain ⟨a, b, rfl⟩ : ∃ a b, z = ix2 a b := ⟨z 0, z 1, eq_ix2 z⟩
  pointwise [val_main_v149, val_main_v148]
  rw [r142 x0 x1 x2 x3 x4 _ _ _ _ hv hg]
  exact sDk_at _ _ _ _ _ 128 _ _ _ _ _ _ (by simp) (by simp) (by simp) (by simp)

/-- The gradient of one head's sink. -/
theorem r125 : Ideal.hostReduceAdd Gen.reducesTo_S32x2x8x128x1_S2x8x1_d0_3 (val_main_v110 x0 x1 x2 x3 x4) 0 (ix3 h g 0)
      + Ideal.hostReduceAdd Gen.reducesTo_S32x2x8x128x1_S2x8x1_d0_3 (val_main_v122 x0 x1 x2 x3 x4) 0 (ix3 h g 0)
    = ∑ n : Fin 32, ∑ i : Fin 128, hSink (bQ (rQ x0) n h) (bQ (rQ x4) n h) (bK (rK x1) n h) (bK (rV x2) n h) (bB n) (bS (rS x3) h) (gi g i) := by
  have h2 : (∑ n : Fin 32, ∑ i : Fin 128, val_main_v122 x0 x1 x2 x3 x4 (ix5 n h g i 0) : EReal) = 0 :=
    Finset.sum_eq_zero fun n _ => Finset.sum_eq_zero fun i _ => r122z x0 x1 x2 x3 x4 n h g i hv hg
  have h1 : (∑ n : Fin 32, ∑ i : Fin 128, val_main_v110 x0 x1 x2 x3 x4 (ix5 n h g i 0) : EReal)
      = ∑ n : Fin 32, ∑ i : Fin 128, hSink (bQ (rQ x0) n h) (bQ (rQ x4) n h) (bK (rK x1) n h) (bK (rV x2) n h) (bB n) (bS (rS x3) h) (gi g i) :=
    Finset.sum_congr rfl fun n _ => Finset.sum_congr rfl fun i _ => r110 x0 x1 x2 x3 x4 n h g i
  rw [sum_heads, sum_heads, h1, h2, zero_add, zero_add, add_zero]

theorem out_134 : val_main_v134 x0 x1 x2 x3 x4 = fun z => sSink (rQ x0) (rK x1) (rV x2) (rS x3) (rQ x4) (z 1) := by
  funext z
  obtain ⟨a, l, rfl⟩ : ∃ a b, z = ix2 a b := ⟨z 0, z 1, eq_ix2 z⟩
  obtain rfl : a = 0 := Subsingleton.elim _ _
  have hS0 : ∀ (l : Fin 128) (hl : l.val < 8), sSink (rQ x0) (rK x1) (rV x2) (rS x3) (rQ x4) l
      = ∑ n : Fin 32, ∑ i : Fin 128, hSink (bQ (rQ x0) n 0) (bQ (rQ x4) n 0) (bK (rK x1) n 0) (bK (rV x2) n 0) (bB n) (bS (rS x3) 0) (gi ⟨l.val, hl⟩ i) := by
    intro l hl
    refine Finset.sum_congr rfl fun n _ => ?_
    rw [sSinkAt, sum_head _ ⟨l.val, hl⟩ 0 l.val rfl, sum_nohead _ 8 l.val (fun g => by omega), add_zero]
  have hS1 : ∀ (l : Fin 128) (hl : 8 ≤ l.val) (hl' : l.val < 16), sSink (rQ x0) (rK x1) (rV x2) (rS x3) (rQ x4) l
      = ∑ n : Fin 32, ∑ i : Fin 128, hSink (bQ (rQ x0) n 1) (bQ (rQ x4) n 1) (bK (rK x1) n 1) (bK (rV x2) n 1) (bB n) (bS (rS x3) 1) (gi ⟨l.val - 8, by omega⟩ i) := by
    intro l hl hl'
    refine Finset.sum_congr rfl fun n _ => ?_
    rw [sSinkAt, sum_nohead _ 0 l.val (fun g => by omega), sum_head _ ⟨l.val - 8, by omega⟩ 8 l.val (by dsimp only; omega), zero_add]
  have hS2 : ∀ (l : Fin 128) (hl : 16 ≤ l.val), sSink (rQ x0) (rK x1) (rV x2) (rS x3) (rQ x4) l = 0 := by
    intro l hl
    refine Finset.sum_eq_zero fun n _ => ?_
    rw [sSinkAt, sum_nohead _ 0 l.val (fun g => by omega), sum_nohead _ 8 l.val (fun g => by omega), add_zero]
  pointwise [val_main_v134, val_main_v133, val_main_v132, val_main_v125, val_main_v124, val_main_v123, val_main_v112, val_main_v111, val_main_cst_18, val_main_cst_21, val_main_cst_23]
  split_ifs with hl
  · refine (r125 x0 x1 x2 x3 x4 _ _ hv hg).trans ?_
    by_cases h8 : l.val < 8
    · refine Eq.trans ?_ (hS0 l h8).symm
      rw [show (⟨l.val / 8, by omega⟩ : Fin 2) = 0 from Fin.ext (by simp; omega), show (⟨l.val % 8, by omega⟩ : Fin 8) = ⟨l.val, h8⟩ from Fin.ext (by simp; omega)]
    · refine Eq.trans ?_ (hS1 l (by omega) (by omega)).symm
      rw [show (⟨l.val / 8, by omega⟩ : Fin 2) = 1 from Fin.ext (by simp; omega), show (⟨l.val % 8, by omega⟩ : Fin 8) = ⟨l.val - 8, by omega⟩ from Fin.ext (by simp; omega)]
  · exact (hS2 l (by omega)).symm

end Cert.ReferenceIdeal.Read
-- ==== Proof.Finite.lean ====
module

public import proofs.«01_k».proof.Defs
public import proofs.«01_k».proof.Proof.ROut
public import proofs.«01_k».proof.Proof.Gen.KernelIdeal
public import Idealize.ShloMosaic.Lib.Pointwise

@[expose] public section

set_option maxRecDepth 16384

noncomputable section

open Idealize.ShloMosaic Idealize.ShloMosaic.TcCoe Idealize.SL.Sem

namespace Cert.Pre_values_finite

/-- The function's facts, from the shapes. -/
theorem facts : Cert.Pre_values_finite.Facts where
  slices_S4096x7680_S4096x128_0_7424 := Cert.ReferenceIdeal.Gen.slices_S4096x7680_S4096x128_0_7424
  bcast_S_S4096x128 := by decide
  bcast_S_S4096x1024 := by decide

variable [Facts]
open Facts

variable (x0 : FVec Ideal S4096x1024 .f32) (x1 : FVec Ideal S4096x128 .f32) (x2 : FVec Ideal S4096x7680 .f32) (x3 : FVec Ideal S1x128 .f32)
  (x4 : FVec Ideal S4096x1024 .f32)

theorem real_of_abs (x : EReal) (h : BitVec.ofBool (decide (max x (-x) < (⊤ : EReal))) = 1#1) : ∃ r : ℝ, x = r := by
  have hx : max x (-x) < ⊤ := by
    by_contra hc
    rw [decide_eq_false hc] at h
    exact absurd h (by decide)
  induction x using EReal.rec with
  | bot => simp at hx
  | top => simp at hx
  | coe r => exact ⟨r, rfl⟩

theorem finite_v (h : (fn (F := Ideal) x0 x1 x2 x3 x4).1 = fun _ => 1#1) (a : Fin 4096) (e : Fin 128) : ∃ r : ℝ, Cert.ReferenceIdeal.Read.rV x2 a e = r := by
  apply real_of_abs
  refine Eq.trans ?_ (congrFun h (ix2 a e))
  unfold fn
  pointwise []
  rw [Cert.Attn.bits_top]
  rfl

theorem finite_g (h : (fn (F := Ideal) x0 x1 x2 x3 x4).2 = fun _ => 1#1) (a : Fin 4096) (e : Fin 1024) : ∃ r : ℝ, Cert.ReferenceIdeal.Read.rQ x4 a e = r := by
  apply real_of_abs
  refine Eq.trans ?_ (congrFun h (ix2 a e))
  unfold fn
  pointwise []
  rw [Cert.Attn.bits_top]
  rfl

end Cert.Pre_values_finite
-- ==== Proof.Prod2.lean ====
/- The input projection: every entry of the result is the sum over the 1024 model columns. -/
module
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Value

open Cert.Kernel2Ideal Cert.Kernel2Ideal.Gen

variable (m : (ℓ : Loc nD τ sig) → Buf (Elt Ideal) ℓ)

theorem pay (x0 : Vec Ideal S1024x1024 .bf16) (x1 : Vec Ideal S1024x1536 .bf16) (y : S1024x1536.Idx) :
    k0_pay1 x0 x1 y = ∑ k : Fin 1024, x0 (ix2 (y 0) k) * x1 (ix2 k (y 1)) := by
  pointwise [k0_pay1]

/-- Which block of each array a grid point works on. -/
theorem idx_val : ∀ t : Fin cfg0.N, win0_0.index t = ![t.val / 5, 0] ∧ win0_1.index t = ![0, t.val % 5] ∧ win0_2.index t = ![t.val / 5, t.val % 5] :=
  (by decide +kernel : ∀ t : Fin grid0.N, _)

/-- The product, entry by entry. -/
def G (X : FVec Ideal S4096x1024 .bf16) (W : FVec Ideal S1024x7680 .bf16) : S4096x7680.Idx → EReal :=
  fun z => ∑ k : Fin 1024, X (ix2 (z 0) k) * W (ix2 k (z 1))

set_option maxHeartbeats 2000000 in
theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t hf y => ?_
  have ht : t.val < 20 := lt_of_lt_of_eq t.isLt N_0
  blk_simp
  rw [after0_2]
  frame_out
  rw [pay, G]
  refine Finset.sum_congr (M := EReal) rfl fun k _ => ?_
  blk_point [iblk, V, idx_val t]

/-- The reference's product is the same sums. -/
theorem ref (X : FVec Ideal S4096x1024 .bf16) (W : FVec Ideal S1024x7680 .bf16) :
    Cert.Reference2Ideal.Read.val_main_v2 (F := Ideal) X W = G X W := by
  funext z
  rw [Cert.Reference2Ideal.Read.val_main_v2_apply, G]
  refine Finset.sum_congr rfl fun k _ => ?_
  exact congrArg₂ (· * ·) (congrArg _ (eq_ix2 _)) (congrArg _ (eq_ix2 _))

end Cert.Kernel2Ideal.Value
-- ==== Proof.Prod3.lean ====
/- The gradient of the input projection with respect to its input. -/
module
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Value

open Cert.Kernel3Ideal Cert.Kernel3Ideal.Gen

variable (m : (ℓ : Loc nD τ sig) → Buf (Elt Ideal) ℓ)

theorem first_pay (x0 : Vec Ideal S1024x1536 .bf16) (x1 : Vec Ideal S1024x1536 .bf16) (y : S1024x1024.Idx) :
    k0_pay2 x0 x1 y = ∑ k : Fin 1536, x0 (ix2 (y 0) k) * x1 (ix2 (y 1) k) := by
  pointwise [k0_pay2, k0_pay1]

theorem next_pay (x0 : Vec Ideal S1024x1536 .bf16) (x1 : Vec Ideal S1024x1536 .bf16) (acc : Vec Ideal S1024x1024 .f32) (y : S1024x1024.Idx) :
    k0_pay3 x0 x1 acc y = acc y + ∑ k : Fin 1536, x0 (ix2 (y 0) k) * x1 (ix2 (y 1) k) := by
  pointwise [k0_pay3, k0_pay1]

/-- Which block of each array a grid point works on. -/
theorem idx_val : ∀ t : Fin cfg0.N, win0_0.index t = ![t.val / 5, t.val % 5] ∧ win0_1.index t = ![0, t.val % 5] ∧ win0_2.index t = ![t.val / 5, 0] :=
  (by decide +kernel : ∀ t : Fin grid0.N, _)

/-- The product, entry by entry. -/
def G (X : FVec Ideal S4096x7680 .bf16) (W : FVec Ideal S1024x7680 .bf16) : S4096x1024.Idx → EReal :=
  fun z => ∑ k : Fin 7680, X (ix2 (z 0) k) * W (ix2 (z 1) k)

set_option maxHeartbeats 2000000 in
theorem final (c : Dev nD) : (dats m 0 c).arrAt 2 (cfgs 0).N = G (m ((c : Thread nD τ).loc main_arg2)) (m ((c : Thread nD τ).loc main_arg1)) := by
  refine (dats m 0 c).arrAt_eq_of_covers 2 _ (by decide +kernel) fun t hf y => ?_
  have hm : t.val % 5 = 4 := (flush0_2 t).mp hf
  have hlast : (outsAt0 m c t.val t.isLt).1 = (outsAt0 m c t.val t.isLt).2 := by
    rw [outsAt0_C m c t (by omega) (by omega) hm]; funext j; frame_out
  blk_simp
  rw [after0_2, hlast, Pipeline.eq_sum_fin_of_reset_step_apply_of_flush (fun n h => (outsAt0 m c n h).2) 5 (fun _ => 0) _
    (fun t h j => by
      rw [outsAt0_A m c t h (by have ht : t.val < 20 := lt_of_lt_of_eq t.isLt N_0; omega) (by omega)]; frame_out
      rw [first_pay, ← zero_add (∑ k : Fin 1536, _)])
    (fun t h j => by
      by_cases h3 : t.val % 5 = 4
      · rw [outsAt0_C m c t h (by omega) h3]; frame_out; rw [next_pay]
        exact congrArg (· + _) (congrFun ((Memref.isWhole_whole cc0_scratch0).read_unread _) j)
      · rw [outsAt0_B m c t h (by omega) h3]; frame_out; rw [next_pay]
        exact congrArg (· + _) (congrFun ((Memref.isWhole_whole cc0_scratch0).read_unread _) j))
    t ((flush0_2 t).mp hf) _, zero_add]
  rw [G]
  refine Fin.sum_mul_add_congr fun s k hl => ?_
  have ht : t.val < 20 := lt_of_lt_of_eq t.isLt N_0
  blk_point [iblk, V, idx_val t, idx_val ⟨_, Pipeline.run_point_lt_of_flush t ((flush0_2 t).mp hf) s⟩]

/-- The reference's product is the same sums. -/
theorem ref (X : FVec Ideal S4096x7680 .bf16) (W : FVec Ideal S1024x7680 .bf16) :
    Cert.Reference3Ideal.Read.val_main_v6 (F := Ideal) W X = G X W := by
  funext z
  rw [Cert.Reference3Ideal.Read.val_main_v6_apply, G]
  refine Finset.sum_congr rfl fun k _ => ?_
  exact congrArg₂ (· * ·) (congrArg _ (eq_ix2 _)) (congrArg _ (eq_ix2 _))

end Cert.Kernel3Ideal.Value
-- ==== Proof.Prod4.lean ====
/- The gradient of the input projection with respect to its weight. -/
module
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Value

open Cert.Kernel4Ideal Cert.Kernel4Ideal.Gen

variable (m : (ℓ : Loc nD τ sig) → Buf (Elt Ideal) ℓ)

theorem first_pay (x0 : Vec Ideal S1024x1024 .bf16) (x1 : Vec Ideal S1024x1536 .bf16) (y : S1024x1536.Idx) :
    k0_pay2 x0 x1 y = ∑ k : Fin 1024, x0 (ix2 (y 0) k) * x1 (ix2 k (y 1)) := by
  pointwise [k0_pay2, k0_pay1]

theorem next_pay (x0 : Vec Ideal S1024x1024 .bf16) (x1 : Vec Ideal S1024x1536 .bf16) (acc : Vec Ideal S1024x1536 .f32) (y : S1024x1536.Idx) :
    k0_pay3 x0 x1 acc y = acc y + ∑ k : Fin 1024, x0 (ix2 (y 0) k) * x1 (ix2 k (y 1)) := by
  pointwise [k0_pay3, k0_pay1]

/-- Which block of each array a grid point works on. -/
theorem idx_val : ∀ t : Fin cfg0.N, win0_0.index t = ![0, t.val % 4] ∧ win0_1.index t = ![t.val % 4, t.val / 4] ∧ win0_2.index t = ![0, t.val / 4] :=
  (by decide +kernel : ∀ t : Fin grid0.N, _)

/-- The product, entry by entry. -/
def G (X : FVec Ideal S1024x4096 .bf16) (W : FVec Ideal S4096x7680 .bf16) : S1024x7680.Idx → EReal :=
  fun z => ∑ k : Fin 4096, X (ix2 (z 0) k) * W (ix2 k (z 1))

set_option maxHeartbeats 2000000 in
theorem final (c : Dev nD) : (dats m 0 c).arrAt 2 (cfgs 0).N = G (m ((c : Thread nD τ).loc main_arg0)) (m ((c : Thread nD τ).loc main_arg2)) := by
  refine (dats m 0 c).arrAt_eq_of_covers 2 _ (by decide +kernel) fun t hf y => ?_
  have hm : t.val % 4 = 3 := (flush0_2 t).mp hf
  have hlast : (outsAt0 m c t.val t.isLt).1 = (outsAt0 m c t.val t.isLt).2 := by
    rw [outsAt0_C m c t (by omega) (by omega) hm]; funext j; frame_out
  blk_simp
  rw [after0_2, hlast, Pipeline.eq_sum_fin_of_reset_step_apply_of_flush (fun n h => (outsAt0 m c n h).2) 4 (fun _ => 0) _
    (fun t h j => by
      rw [outsAt0_A m c t h (by have ht : t.val < 20 := lt_of_lt_of_eq t.isLt N_0; omega) (by omega)]; frame_out
      rw [first_pay, ← zero_add (∑ k : Fin 1024, _)])
    (fun t h j => by
      by_cases h3 : t.val % 4 = 3
      · rw [outsAt0_C m c t h (by omega) h3]; frame_out; rw [next_pay]
        exact congrArg (· + _) (congrFun ((Memref.isWhole_whole cc0_scratch0).read_unread _) j)
      · rw [outsAt0_B m c t h (by omega) h3]; frame_out; rw [next_pay]
        exact congrArg (· + _) (congrFun ((Memref.isWhole_whole cc0_scratch0).read_unread _) j))
    t ((flush0_2 t).mp hf) _, zero_add]
  rw [G]
  refine Fin.sum_mul_add_congr fun s k hl => ?_
  have ht : t.val < 20 := lt_of_lt_of_eq t.isLt N_0
  blk_point [iblk, V, idx_val t, idx_val ⟨_, Pipeline.run_point_lt_of_flush t ((flush0_2 t).mp hf) s⟩]

/-- The reference's product is the same sums. -/
theorem ref (X : FVec Ideal S1024x4096 .bf16) (W : FVec Ideal S4096x7680 .bf16) :
    Cert.Reference4Ideal.Read.val_main_v6 (F := Ideal) X W = G X W := by
  funext z
  rw [Cert.Reference4Ideal.Read.val_main_v6_apply, Cert.Reference4Ideal.Read.val_main_v5_apply, G]
  refine Finset.sum_congr rfl fun k _ => ?_
  rw [Cert.Reference4Ideal.Read.val_main_v1_apply, Cert.Reference4Ideal.Read.val_main_v0_apply, mul_comm]; exact congrArg₂ (· * ·) (congrArg X (eq_ix2 _)) (congrArg _ (eq_ix2 _))

end Cert.Kernel4Ideal.Value
-- ==== Proof.Prod5.lean ====
/- The up projection; its weight is held as four blocks of columns. -/
module
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Value

open Cert.Kernel5Ideal Cert.Kernel5Ideal.Gen

variable (m : (ℓ : Loc nD τ sig) → Buf (Elt Ideal) ℓ)

theorem pay (x0 : Vec Ideal S1024x1024 .bf16) (x1 : Vec Ideal S1x1024x1408 .bf16) (y : S1024x1408.Idx) :
    k0_pay1 x0 x1 y = ∑ k : Fin 1024, x0 (ix2 (y 0) k) * x1 (ix3 0 k (y 1)) := by
  pointwise [k0_pay1]

/-- Which block of each array a grid point works on. -/
theorem idx_val : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- The block of columns a column is in, and its place there. -/
def slot (j : Fin 5632) : Fin 4 := ⟨j.val / 1408, by omega⟩
def place (j : Fin 5632) : Fin 1408 := ⟨j.val % 1408, by omega⟩

/-- The product, entry by entry. -/
def G (X : FVec Ideal S4096x1024 .bf16) (W : FVec Ideal S4x1024x1408 .bf16) : S4096x5632.Idx → EReal :=
  fun z => ∑ k : Fin 1024, X (ix2 (z 0) k) * W (ix3 (slot (z 1)) k (place (z 1)))

set_option maxHeartbeats 2000000 in
theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t hf y => ?_
  have ht : t.val < 16 := lt_of_lt_of_eq t.isLt N_0
  blk_simp
  rw [after0_2]
  frame_out
  rw [pay, G]
  refine Finset.sum_congr (M := EReal) rfl fun k _ => ?_
  unfold slot place
  blk_point [iblk, V, idx_val t]

/-- The reference's product is the same sums. -/
theorem ref (X : FVec Ideal S4096x1024 .bf16) (W : FVec Ideal S4x1024x1408 .bf16) :
    Cert.Reference5Ideal.Read.val_main_v4 (F := Ideal) X W = G X W := by
  funext z
  rw [Cert.Reference5Ideal.Read.val_main_v4_apply, G]
  refine Finset.sum_congr rfl fun k _ => ?_
  rw [Cert.Reference5Ideal.Read.val_main_v3_apply, Cert.Reference5Ideal.Read.val_main_v2_apply]
  refine congrArg₂ (· * ·) (congrArg X (eq_ix2 _)) (congrArg W ?_)
  refine (eq_ix3 _).trans ?_
  have h1 : (z 1).val < 5632 := (z 1).isLt
  have h0 : k.val < 1024 := k.isLt
  congr 1 <;> apply Fin.ext <;> simp only [slot, place] <;> omega

end Cert.Kernel5Ideal.Value
-- ==== Proof.Prod6.lean ====
/- The gradient of the up projection with respect to its input. -/
module
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.Value

open Cert.Kernel6Ideal Cert.Kernel6Ideal.Gen

variable (m : (ℓ : Loc nD τ sig) → Buf (Elt Ideal) ℓ)

/-- The piece of the incoming gradient that a grid point multiplies. -/
def piece (b : Prop) [Decidable b] (x0 x1 : Vec Ideal S1024x1408 .bf16) : Vec Ideal S1024x1408 .bf16 := if b then x0 else x1

theorem sel (i : grid0.Coords) (x0 x1 : Vec Ideal S1024x1408 .bf16) :
    Scalar.select (Scalar.cmpi .slt (BitVec.ofNat 32 (i 2).val) 2#32) x0 x1 = piece ((i 2).val < 2) x0 x1 := by
  have h : ∀ n : Fin 4, Scalar.select (Scalar.cmpi .slt (BitVec.ofNat 32 n.val) 2#32) x0 x1 = piece (n.val < 2) x0 x1 := by
    intro n
    match n with
    | 0 => rfl
    | 1 => rfl
    | 2 => rfl
    | 3 => rfl
  exact h (i 2)

theorem first_pay (i : grid0.Coords) (x0 x1 : Vec Ideal S1024x1408 .bf16) (x2 : Vec Ideal S1x1024x1408 .bf16) (y : S1024x1024.Idx) :
    k0_pay2 i x0 x1 x2 y = ∑ k : Fin 1408, piece ((i 2).val < 2) x0 x1 (ix2 (y 0) k) * x2 (ix3 0 (y 1) k) := by
  unfold k0_pay2 k0_pay1
  simp only [sel]
  pointwise []

theorem next_pay (i : grid0.Coords) (x0 x1 : Vec Ideal S1024x1408 .bf16) (x2 : Vec Ideal S1x1024x1408 .bf16) (acc : Vec Ideal S1024x1024 .f32)
    (y : S1024x1024.Idx) :
    k0_pay3 i x0 x1 x2 acc y = acc y + ∑ k : Fin 1408, piece ((i 2).val < 2) x0 x1 (ix2 (y 0) k) * x2 (ix3 0 (y 1) k) := by
  unfold k0_pay3 k0_pay1
  simp only [sel]
  pointwise []

/-- Which block of each array a grid point works on. -/
theorem idx_val : ∀ t : Fin cfg0.N, win0_0.index t = ![t.val / 4, min (t.val % 4) 1] ∧ win0_1.index t = ![t.val / 4, t.val % 4 - 2]
    ∧ win0_2.index t = ![t.val % 4, 0, 0] ∧ win0_3.index t = ![t.val / 4, 0] :=
  (by decide +kernel : ∀ t : Fin grid0.N, _)

theorem coord_val : ∀ t : Fin cfg0.N, (grid0.coords t 2).val = t.val % 4 :=
  (by decide +kernel : ∀ t : Fin grid0.N, _)

/-- The block of columns a column is in, and its place there. -/
def slot (j : Fin 5632) : Fin 4 := ⟨j.val / 1408, by omega⟩
def place (j : Fin 5632) : Fin 1408 := ⟨j.val % 1408, by omega⟩

/-- The two halves of the incoming gradient side by side. -/
def cat (D L : FVec Ideal S4096x2816 .bf16) (i : Fin 4096) (j : Fin 5632) : EReal :=
  if h : j.val < 2816 then D (ix2 i ⟨j.val, h⟩) else L (ix2 i ⟨j.val - 2816, by omega⟩)

theorem ref_cat (D L : FVec Ideal S4096x2816 .bf16) (i : Fin 4096) (j : Fin 5632) :
    Cert.Reference6Ideal.Read.val_main_v6 (F := Ideal) D L (ix2 i j) = cat D L i j := by
  unfold cat
  pointwise [Cert.Reference6Ideal.Read.val_main_v6, Cert.Reference6Ideal.Read.val_main_v5]

/-- The product, entry by entry. -/
def G (W : FVec Ideal S4x1024x1408 .bf16) (D L : FVec Ideal S4096x2816 .bf16) : S4096x1024.Idx → EReal :=
  fun z => ∑ k : Fin 5632, cat D L (z 0) k * W (ix3 (slot k) (z 1) (place k))

set_option maxHeartbeats 2000000 in
theorem final (c : Dev nD) : (dats m 0 c).arrAt 3 (cfgs 0).N
    = G (m ((c : Thread nD τ).loc main_arg1)) (m ((c : Thread nD τ).loc main_arg2)) (m ((c : Thread nD τ).loc main_arg3)) := by
  refine (dats m 0 c).arrAt_eq_of_covers 3 _ (by decide +kernel) fun t hf y => ?_
  have hm : t.val % 4 = 3 := (flush0_3 t).mp hf
  have hlast : (outsAt0 m c t.val t.isLt).1 = (outsAt0 m c t.val t.isLt).2 := by
    rw [outsAt0_C m c t (by omega) (by omega) hm]; funext j; frame_out
  blk_simp
  rw [after0_3, hlast, Pipeline.eq_sum_fin_of_reset_step_apply_of_flush (fun n h => (outsAt0 m c n h).2) 4 (fun _ => 0) _
    (fun t h j => by
      have hc := coord_val t
      rw [outsAt0_A m c t h (by omega) (by omega)]; frame_out
      rw [first_pay, ← zero_add (∑ k : Fin 1408, _)])
    (fun t h j => by
      by_cases h3 : t.val % 4 = 3
      · rw [outsAt0_C m c t h (by omega) h3]; frame_out; rw [next_pay]
        exact congrArg (· + _) (congrFun ((Memref.isWhole_whole cc0_scratch0).read_unread _) j)
      · rw [outsAt0_B m c t h (by omega) h3]; frame_out; rw [next_pay]
        exact congrArg (· + _) (congrFun ((Memref.isWhole_whole cc0_scratch0).read_unread _) j))
    t ((flush0_3 t).mp hf) _, zero_add]
  rw [G]
  refine Fin.sum_mul_add_congr fun s k hl => ?_
  have ht : t.val < 16 := lt_of_lt_of_eq t.isLt N_0
  have hk : k.val < 1408 := k.isLt
  refine congrArg₂ (HMul.hMul (α := EReal)) ?_ ?_
  · rw [coord_val]
    unfold piece cat
    by_cases hs : s.val < 2
    · rw [if_pos (by dsimp only; omega), dif_pos (by dsimp only; omega)]
      blk_point [iblk, V, idx_val t, idx_val ⟨_, Pipeline.run_point_lt_of_flush t ((flush0_3 t).mp hf) s⟩]
    · rw [if_neg (by dsimp only; omega), dif_neg (by dsimp only; omega)]
      blk_point [iblk, V, idx_val t, idx_val ⟨_, Pipeline.run_point_lt_of_flush t ((flush0_3 t).mp hf) s⟩]
  · unfold slot place
    blk_point [iblk, V, idx_val t, idx_val ⟨_, Pipeline.run_point_lt_of_flush t ((flush0_3 t).mp hf) s⟩]

/-- The reference's product is the same sums. -/
theorem ref (W : FVec Ideal S4x1024x1408 .bf16) (D L : FVec Ideal S4096x2816 .bf16) :
    Cert.Reference6Ideal.Read.val_main_v9 (F := Ideal) W D L = G W D L := by
  funext z
  rw [Cert.Reference6Ideal.Read.val_main_v9_apply, G]
  refine Finset.sum_congr rfl fun k _ => ?_
  rw [Cert.Reference6Ideal.Read.val_main_v3_apply, Cert.Reference6Ideal.Read.val_main_v2_apply]
  refine congrArg₂ (· * ·) ((congrArg _ (eq_ix2 _)).trans (ref_cat D L (z 0) k)) (congrArg W ?_)
  refine (eq_ix3 _).trans ?_
  have h1 : (z 1).val < 1024 := (z 1).isLt
  have h0 : k.val < 5632 := k.isLt
  congr 1 <;> apply Fin.ext <;> simp only [slot, place] <;> omega

end Cert.Kernel6Ideal.Value
-- ==== Proof.Prod7.lean ====
/- The gradient of the up projection with respect to its weight, which is held as four blocks of columns. -/
module
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel7Ideal.Value

open Cert.Kernel7Ideal Cert.Kernel7Ideal.Gen

variable (m : (ℓ : Loc nD τ sig) → Buf (Elt Ideal) ℓ)

/-- The piece of the incoming gradient that a grid point multiplies. -/
def piece (b : Prop) [Decidable b] (x0 x1 : Vec Ideal S1024x1408 .bf16) : Vec Ideal S1024x1408 .bf16 := if b then x0 else x1

theorem sel (i : grid0.Coords) (x0 x1 : Vec Ideal S1024x1408 .bf16) :
    Scalar.select (Scalar.cmpi .slt (BitVec.ofNat 32 (i 1).val) 2#32) x0 x1 = piece ((i 1).val < 2) x0 x1 := by
  have h : ∀ n : Fin 4, Scalar.select (Scalar.cmpi .slt (BitVec.ofNat 32 n.val) 2#32) x0 x1 = piece (n.val < 2) x0 x1 := by
    intro n
    match n with
    | 0 => rfl
    | 1 => rfl
    | 2 => rfl
    | 3 => rfl
  exact h (i 1)

theorem first_pay (i : grid0.Coords) (x0 : Vec Ideal S1024x1024 .bf16) (x1 x2 : Vec Ideal S1024x1408 .bf16) (y : S1024x1408.Idx) :
    k0_pay2 i x0 x1 x2 y = ∑ k : Fin 1024, x0 (ix2 (y 0) k) * piece ((i 1).val < 2) x1 x2 (ix2 k (y 1)) := by
  unfold k0_pay2 k0_pay1
  simp only [sel]
  pointwise []

theorem next_pay (i : grid0.Coords) (x0 : Vec Ideal S1024x1024 .bf16) (x1 x2 : Vec Ideal S1024x1408 .bf16) (acc : Vec Ideal S1024x1408 .f32)
    (y : S1024x1408.Idx) :
    k0_pay3 i x0 x1 x2 acc y = acc y + ∑ k : Fin 1024, x0 (ix2 (y 0) k) * piece ((i 1).val < 2) x1 x2 (ix2 k (y 1)) := by
  unfold k0_pay3 k0_pay1
  simp only [sel]
  pointwise []

theorem out_pay (acc : Vec Ideal S1024x1408 .f32) (y : S1x1024x1408.Idx) : k0_pay4 acc y = acc (ix2 (y 1) (y 2)) := by
  pointwise [k0_pay4]

/-- Which block of each array a grid point works on. -/
theorem idx_val : ∀ t : Fin cfg0.N, win0_0.index t = ![0, t.val % 4] ∧ win0_1.index t = ![t.val % 4, min (t.val / 4) 1]
    ∧ win0_2.index t = ![t.val % 4, t.val / 4 - 2] ∧ win0_3.index t = ![t.val / 4, 0, 0] :=
  (by decide +kernel : ∀ t : Fin grid0.N, _)

theorem coord_val : ∀ t : Fin cfg0.N, (grid0.coords t 1).val = t.val / 4 :=
  (by decide +kernel : ∀ t : Fin grid0.N, _)

/-- Column `j` of block `s` in the whole weight. -/
def col (s : Fin 4) (j : Fin 1408) : Fin 5632 := ⟨s.val * 1408 + j.val, by omega⟩

/-- The two halves of the incoming gradient side by side. -/
def cat (D L : FVec Ideal S4096x2816 .bf16) (i : Fin 4096) (j : Fin 5632) : EReal :=
  if h : j.val < 2816 then D (ix2 i ⟨j.val, h⟩) else L (ix2 i ⟨j.val - 2816, by omega⟩)

theorem ref_cat (D L : FVec Ideal S4096x2816 .bf16) (i : Fin 4096) (j : Fin 5632) :
    Cert.Reference7Ideal.Read.val_main_v7 (F := Ideal) D L (ix2 i j) = cat D L i j := by
  unfold cat
  pointwise [Cert.Reference7Ideal.Read.val_main_v7, Cert.Reference7Ideal.Read.val_main_v6]

/-- The product, entry by entry. -/
def G (X : FVec Ideal S1024x4096 .bf16) (D L : FVec Ideal S4096x2816 .bf16) : S4x1024x1408.Idx → EReal :=
  fun z => ∑ k : Fin 4096, X (ix2 (z 1) k) * cat D L k (col (z 0) (z 2))

set_option maxHeartbeats 2000000 in
theorem final (c : Dev nD) : (dats m 0 c).arrAt 3 (cfgs 0).N
    = G (m ((c : Thread nD τ).loc main_arg0)) (m ((c : Thread nD τ).loc main_arg2)) (m ((c : Thread nD τ).loc main_arg3)) := by
  refine (dats m 0 c).arrAt_eq_of_covers 3 _ (by decide +kernel) fun t hf y => ?_
  have hm : t.val % 4 = 3 := (flush0_3 t).mp hf
  have hlast : (outsAt0 m c t.val t.isLt).1 = k0_pay4 (outsAt0 m c t.val t.isLt).2 := by
    rw [outsAt0_C m c t (by omega) (by omega) hm]; funext j; frame_out
  blk_simp
  rw [after0_3, hlast, out_pay, Pipeline.eq_sum_fin_of_reset_step_apply_of_flush (fun n h => (outsAt0 m c n h).2) 4 (fun _ => 0) _
    (fun t h j => by
      have hc := coord_val t
      rw [outsAt0_A m c t h (by omega) (by omega)]; frame_out
      rw [first_pay, ← zero_add (∑ k : Fin 1024, _)])
    (fun t h j => by
      by_cases h3 : t.val % 4 = 3
      · rw [outsAt0_C m c t h (by omega) h3]; frame_out; rw [next_pay]
        exact congrArg (· + _) (congrFun ((Memref.isWhole_whole cc0_scratch0).read_unread _) j)
      · rw [outsAt0_B m c t h (by omega) h3]; frame_out; rw [next_pay]
        exact congrArg (· + _) (congrFun ((Memref.isWhole_whole cc0_scratch0).read_unread _) j))
    t ((flush0_3 t).mp hf) _, zero_add]
  rw [G]
  refine Fin.sum_mul_add_congr fun s k hl => ?_
  have ht : t.val < 16 := lt_of_lt_of_eq t.isLt N_0
  have hy : (y 2).val < 1408 := (y 2).isLt
  refine congrArg₂ (HMul.hMul (α := EReal)) ?_ ?_
  · blk_point [iblk, V, idx_val t, idx_val ⟨_, Pipeline.run_point_lt_of_flush t ((flush0_3 t).mp hf) s⟩]
  · rw [coord_val]
    have hj : (col ((win0_3.blk t).view.emb y 0) ((win0_3.blk t).view.emb y 2)).val = t.val / 4 * 1408 + (y 2).val := by
      unfold col
      blk_point [idx_val t]
    unfold piece cat
    by_cases hs : t.val / 4 < 2
    · rw [if_pos (by dsimp only; omega), dif_pos (by rw [hj]; omega)]
      unfold col
      blk_point [iblk, V, idx_val t, idx_val ⟨_, Pipeline.run_point_lt_of_flush t ((flush0_3 t).mp hf) s⟩]
    · rw [if_neg (by dsimp only; omega), dif_neg (by rw [hj]; omega)]
      unfold col
      blk_point [iblk, V, idx_val t, idx_val ⟨_, Pipeline.run_point_lt_of_flush t ((flush0_3 t).mp hf) s⟩]

/-- The reference's product is the same sums. -/
theorem ref (X : FVec Ideal S1024x4096 .bf16) (D L : FVec Ideal S4096x2816 .bf16) :
    Cert.Reference7Ideal.Read.val_main_v12 (F := Ideal) X D L = G X D L := by
  funext z
  rw [Cert.Reference7Ideal.Read.val_main_v12_apply, Cert.Reference7Ideal.Read.val_main_v11_apply,
    Cert.Reference7Ideal.Read.val_main_v9_apply, Cert.Reference7Ideal.Read.val_main_v8_apply, G]
  refine Finset.sum_congr rfl fun k _ => ?_
  rw [mul_comm, Cert.Reference7Ideal.Read.val_main_v1_apply, Cert.Reference7Ideal.Read.val_main_v0_apply]
  have h0 : (z 0).val < 4 := (z 0).isLt
  have h1 : (z 1).val < 1024 := (z 1).isLt
  have h2 : (z 2).val < 1408 := (z 2).isLt
  refine congrArg₂ (· * ·) (congrArg X ((eq_ix2 _).trans ?_)) ((congrArg _ ((eq_ix2 _).trans ?_)).trans (ref_cat D L k (col (z 0) (z 2))))
  · congr 1
    apply Fin.ext
    show (((z 1).val * 4 + (z 0).val) * 1408 + (z 2).val) / 5632 = (z 1).val
    omega
  · congr 1
    apply Fin.ext
    show (((z 1).val * 4 + (z 0).val) * 1408 + (z 2).val) % 5632 = (z 0).val * 1408 + (z 2).val
    omega

end Cert.Kernel7Ideal.Value
-- ==== Proof.Prod8.lean ====
/- The down projection, with the gated residual. -/
module
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel8Ideal.Value

open Cert.Kernel8Ideal Cert.Kernel8Ideal.Gen

variable (m : (ℓ : Loc nD τ sig) → Buf (Elt Ideal) ℓ)

theorem first_pay (x0 : Vec Ideal S1024x1408 .bf16) (x1 : Vec Ideal S1408x1024 .bf16) (y : S1024x1024.Idx) :
    k0_pay2 x0 x1 y = ∑ k : Fin 1408, x0 (ix2 (y 0) k) * x1 (ix2 k (y 1)) := by
  pointwise [k0_pay2, k0_pay1]

theorem next_pay (x0 : Vec Ideal S1024x1408 .bf16) (x1 : Vec Ideal S1408x1024 .bf16) (acc : Vec Ideal S1024x1024 .f32) (y : S1024x1024.Idx) :
    k0_pay3 x0 x1 acc y = acc y + ∑ k : Fin 1408, x0 (ix2 (y 0) k) * x1 (ix2 k (y 1)) := by
  pointwise [k0_pay3, k0_pay1]

theorem res_pay (acc : Vec Ideal S1024x1024 .f32) (x2 : Vec Ideal S1024x1024 .f32) (x3 : Vec Ideal S1x1024 .f32) (y : S1024x1024.Idx) :
    k0_pay4 acc x2 x3 y = x2 y + x3 (ix2 0 (y 1)) * acc y := by
  pointwise [k0_pay4]

/-- Which block of each array a grid point works on. -/
theorem idx_val : ∀ t : Fin cfg0.N, win0_0.index t = ![t.val / 2, t.val % 2] ∧ win0_1.index t = ![t.val % 2, 0] ∧ win0_2.index t = ![t.val / 2, 0]
    ∧ win0_3.index t = ![0, 0] ∧ win0_4.index t = ![t.val / 2, 0] ∧ win0_5.index t = ![t.val / 2, 0] :=
  (by decide +kernel : ∀ t : Fin grid0.N, _)

/-- The product, entry by entry. -/
def G (X : FVec Ideal S4096x2816 .bf16) (W : FVec Ideal S2816x1024 .bf16) : S4096x1024.Idx → EReal :=
  fun z => ∑ k : Fin 2816, X (ix2 (z 0) k) * W (ix2 k (z 1))

/-- The gated product added to the residual. -/
def H (X : FVec Ideal S4096x2816 .bf16) (W : FVec Ideal S2816x1024 .bf16) (x : FVec Ideal S4096x1024 .f32) (gt : FVec Ideal S1x1024 .f32) :
    S4096x1024.Idx → EReal :=
  fun z => x z + gt (ix2 0 (z 1)) * G X W z

set_option maxHeartbeats 2000000 in
theorem final_4 (c : Dev nD) : (dats m 0 c).arrAt 4 (cfgs 0).N
    = G (m ((c : Thread nD τ).loc main_arg0)) (m ((c : Thread nD τ).loc main_arg1)) := by
  refine (dats m 0 c).arrAt_eq_of_covers 4 _ (by decide +kernel) fun t hf y => ?_
  have hm : t.val % 2 = 1 := (flush0_4 t).mp hf
  have hlast : (outsAt0 m c t.val t.isLt).1 = (outsAt0 m c t.val t.isLt).2.2 := by
    rw [outsAt0_B m c t (by omega) hm hm]; funext j; frame_out
  blk_simp
  rw [after0_4, hlast, Pipeline.eq_sum_fin_of_reset_step_apply_of_flush (fun n h => (outsAt0 m c n h).2.2) 2 (fun _ => 0) _
    (fun t h j => by
      rw [outsAt0_A m c t h (by omega) (by omega)]; frame_out
      rw [first_pay, ← zero_add (∑ k : Fin 1408, _)])
    (fun t h j => by
      rw [outsAt0_B m c t h (by omega) (by omega)]; frame_out; rw [next_pay]
      exact congrArg (· + _) (congrFun ((Memref.isWhole_whole cc0_scratch0).read_unread _) j))
    t ((flush0_4 t).mp hf) _, zero_add]
  rw [G]
  refine Fin.sum_mul_add_congr fun s k hl => ?_
  have ht : t.val < 8 := lt_of_lt_of_eq t.isLt N_0
  blk_point [iblk, V, idx_val t, idx_val ⟨_, Pipeline.run_point_lt_of_flush t ((flush0_4 t).mp hf) s⟩]

set_option maxHeartbeats 2000000 in
theorem final_5 (c : Dev nD) : (dats m 0 c).arrAt 5 (cfgs 0).N
    = H (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  have hm : t.val % 2 = 1 := (flush0_5 t).mp hf
  have ht : t.val < 8 := lt_of_lt_of_eq t.isLt N_0
  have hlast : (outsAt0 m c t.val t.isLt).2.1 = k0_pay4 (outsAt0 m c t.val t.isLt).2.2 (iblk m c 2 t) (iblk m c 3 t) := by
    rw [outsAt0_B m c t (by omega) hm hm]; funext j; frame_out
  blk_simp
  rw [after0_5, hlast, res_pay, Pipeline.eq_sum_fin_of_reset_step_apply_of_flush (fun n h => (outsAt0 m c n h).2.2) 2 (fun _ => 0) _
    (fun t h j => by
      rw [outsAt0_A m c t h (by omega) (by omega)]; frame_out
      rw [first_pay, ← zero_add (∑ k : Fin 1408, _)])
    (fun t h j => by
      rw [outsAt0_B m c t h (by omega) (by omega)]; frame_out; rw [next_pay]
      exact congrArg (· + _) (congrFun ((Memref.isWhole_whole cc0_scratch0).read_unread _) j))
    t ((flush0_5 t).mp hf) _, zero_add]
  rw [H, G]
  refine congrArg₂ (HAdd.hAdd (α := EReal)) ?_ (congrArg₂ (HMul.hMul (α := EReal)) ?_ (Fin.sum_mul_add_congr fun s k hl => ?_))
  · blk_point [iblk, V, idx_val t]
  · blk_point [iblk, V, idx_val t]
  · blk_point [iblk, V, idx_val t, idx_val ⟨_, Pipeline.run_point_lt_of_flush t ((flush0_5 t).mp hf) s⟩]

/-- The reference's product is the same sums. -/
theorem ref (X : FVec Ideal S4096x2816 .bf16) (W : FVec Ideal S2816x1024 .bf16) :
    Cert.Reference8Ideal.Read.val_main_v2 (F := Ideal) X W = G X W := by
  funext z
  rw [Cert.Reference8Ideal.Read.val_main_v2_apply, G]
  refine Finset.sum_congr rfl fun k _ => ?_
  exact congrArg₂ (· * ·) (congrArg _ (eq_ix2 _)) (congrArg _ (eq_ix2 _))

/-- The reference's second result: the gated product added to the residual. -/
theorem ref_res (X : FVec Ideal S4096x2816 .bf16) (W : FVec Ideal S2816x1024 .bf16) (x : FVec Ideal S4096x1024 .f32) (gt : FVec Ideal S1x1024 .f32) :
    Cert.Reference8Ideal.Read.val_main_v5 (F := Ideal) X W x gt = H X W x gt := by
  funext z
  rw [Cert.Reference8Ideal.Read.val_main_v5_apply, Cert.Reference8Ideal.Read.val_main_v4_apply,
    Cert.Reference8Ideal.Read.val_main_v3_apply, ref, H]
  exact congrArg (fun e => x z + gt e * G X W z) (eq_ix2 _)

end Cert.Kernel8Ideal.Value
-- ==== Proof.Prod9.lean ====
/- The gradient of the down projection with respect to its input. -/
module
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel9Ideal.Value

open Cert.Kernel9Ideal Cert.Kernel9Ideal.Gen

variable (m : (ℓ : Loc nD τ sig) → Buf (Elt Ideal) ℓ)

theorem pay (x0 : Vec Ideal S1024x1024 .bf16) (x1 : Vec Ideal S1408x1024 .bf16) (y : S1024x1408.Idx) :
    k0_pay1 x0 x1 y = ∑ k : Fin 1024, x0 (ix2 (y 0) k) * x1 (ix2 (y 1) k) := by
  pointwise [k0_pay1]

/-- Which block of each array a grid point works on. -/
theorem idx_val : ∀ t : Fin cfg0.N, win0_0.index t = ![t.val / 2, 0] ∧ win0_1.index t = ![t.val % 2, 0] ∧ win0_2.index t = ![t.val / 2, t.val % 2] :=
  (by decide +kernel : ∀ t : Fin grid0.N, _)

/-- The product, entry by entry. -/
def G (X : FVec Ideal S4096x1024 .bf16) (W : FVec Ideal S2816x1024 .bf16) : S4096x2816.Idx → EReal :=
  fun z => ∑ k : Fin 1024, X (ix2 (z 0) k) * W (ix2 (z 1) k)

set_option maxHeartbeats 2000000 in
theorem final (c : Dev nD) : (dats m 0 c).arrAt 2 (cfgs 0).N = G (m ((c : Thread nD τ).loc main_arg2)) (m ((c : Thread nD τ).loc main_arg1)) := by
  refine (dats m 0 c).arrAt_eq_of_covers 2 _ (by decide +kernel) fun t hf y => ?_
  have ht : t.val < 8 := lt_of_lt_of_eq t.isLt N_0
  blk_simp
  rw [after0_2]
  frame_out
  rw [pay, G]
  refine Finset.sum_congr (M := EReal) rfl fun k _ => ?_
  blk_point [iblk, V, idx_val t]

/-- The reference's product is the same sums. -/
theorem ref (X : FVec Ideal S4096x1024 .bf16) (W : FVec Ideal S2816x1024 .bf16) :
    Cert.Reference9Ideal.Read.val_main_v7 (F := Ideal) W X = G X W := by
  funext z
  rw [Cert.Reference9Ideal.Read.val_main_v7_apply, Cert.Reference9Ideal.Read.val_main_v6_apply, G]
  refine Finset.sum_congr rfl fun k _ => ?_
  exact congrArg₂ (· * ·) (congrArg _ (eq_ix2 _)) (congrArg _ (eq_ix2 _))

end Cert.Kernel9Ideal.Value
-- ==== Proof.Prod10.lean ====
/- The gradient of the down projection with respect to its weight. -/
module
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel10Ideal.Value

open Cert.Kernel10Ideal Cert.Kernel10Ideal.Gen

variable (m : (ℓ : Loc nD τ sig) → Buf (Elt Ideal) ℓ)

theorem first_pay (x0 : Vec Ideal S512x1408 .bf16) (x1 : Vec Ideal S512x1024 .bf16) (y : S1408x1024.Idx) :
    k0_pay2 x0 x1 y = ∑ k : Fin 512, x0 (ix2 k (y 0)) * x1 (ix2 k (y 1)) := by
  pointwise [k0_pay2, k0_pay1]

theorem next_pay (x0 : Vec Ideal S512x1408 .bf16) (x1 : Vec Ideal S512x1024 .bf16) (acc : Vec Ideal S1408x1024 .f32) (y : S1408x1024.Idx) :
    k0_pay3 x0 x1 acc y = acc y + ∑ k : Fin 512, x0 (ix2 k (y 0)) * x1 (ix2 k (y 1)) := by
  pointwise [k0_pay3, k0_pay1]

/-- Which block of each array a grid point works on. -/
theorem idx_val : ∀ t : Fin cfg0.N, win0_0.index t = ![t.val % 8, t.val / 8] ∧ win0_1.index t = ![t.val % 8, 0] ∧ win0_2.index t = ![t.val / 8, 0] :=
  (by decide +kernel : ∀ t : Fin grid0.N, _)

/-- The product, entry by entry. -/
def G (X : FVec Ideal S4096x2816 .bf16) (W : FVec Ideal S4096x1024 .bf16) : S2816x1024.Idx → EReal :=
  fun z => ∑ k : Fin 4096, X (ix2 k (z 0)) * W (ix2 k (z 1))

set_option maxHeartbeats 2000000 in
theorem final (c : Dev nD) : (dats m 0 c).arrAt 2 (cfgs 0).N = G (m ((c : Thread nD τ).loc main_arg0)) (m ((c : Thread nD τ).loc main_arg2)) := by
  refine (dats m 0 c).arrAt_eq_of_covers 2 _ (by decide +kernel) fun t hf y => ?_
  have hm : t.val % 8 = 7 := (flush0_2 t).mp hf
  have hlast : (outsAt0 m c t.val t.isLt).1 = (outsAt0 m c t.val t.isLt).2 := by
    rw [outsAt0_C m c t (by omega) (by omega) hm]; funext j; frame_out
  blk_simp
  rw [after0_2, hlast, Pipeline.eq_sum_fin_of_reset_step_apply_of_flush (fun n h => (outsAt0 m c n h).2) 8 (fun _ => 0) _
    (fun t h j => by
      rw [outsAt0_A m c t h (by have ht : t.val < 16 := lt_of_lt_of_eq t.isLt N_0; omega) (by omega)]; frame_out
      rw [first_pay, ← zero_add (∑ k : Fin 512, _)])
    (fun t h j => by
      by_cases h3 : t.val % 8 = 7
      · rw [outsAt0_C m c t h (by omega) h3]; frame_out; rw [next_pay]
        exact congrArg (· + _) (congrFun ((Memref.isWhole_whole cc0_scratch0).read_unread _) j)
      · rw [outsAt0_B m c t h (by omega) h3]; frame_out; rw [next_pay]
        exact congrArg (· + _) (congrFun ((Memref.isWhole_whole cc0_scratch0).read_unread _) j))
    t ((flush0_2 t).mp hf) _, zero_add]
  rw [G]
  refine Fin.sum_mul_add_congr fun s k hl => ?_
  have ht : t.val < 16 := lt_of_lt_of_eq t.isLt N_0
  blk_point [iblk, V, idx_val t, idx_val ⟨_, Pipeline.run_point_lt_of_flush t ((flush0_2 t).mp hf) s⟩]

/-- The reference's product is the same sums. -/
theorem ref (X : FVec Ideal S4096x2816 .bf16) (W : FVec Ideal S4096x1024 .bf16) :
    Cert.Reference10Ideal.Read.val_main_v5 (F := Ideal) X W = G X W := by
  funext z
  rw [Cert.Reference10Ideal.Read.val_main_v5_apply, Cert.Reference10Ideal.Read.val_main_v4_apply, G]
  refine Finset.sum_congr rfl fun k _ => ?_
  rw [mul_comm]; exact congrArg₂ (· * ·) (congrArg _ (eq_ix2 _)) (congrArg _ (eq_ix2 _))

end Cert.Kernel10Ideal.Value
-- ==== Proof.Prod11.lean ====
/- The output projection of a mixer, without the residual. -/
module
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel11Ideal.Value

open Cert.Kernel11Ideal Cert.Kernel11Ideal.Gen

variable (m : (ℓ : Loc nD τ sig) → Buf (Elt Ideal) ℓ)

theorem pay (x0 : Vec Ideal S1024x1024 .bf16) (x1 : Vec Ideal S1024x1024 .bf16) (y : S1024x1024.Idx) :
    k0_pay1 x0 x1 y = ∑ k : Fin 1024, x0 (ix2 (y 0) k) * x1 (ix2 k (y 1)) := by
  pointwise [k0_pay1]

/-- Which block of each array a grid point works on. -/
theorem idx_val : ∀ t : Fin cfg0.N, win0_0.index t = ![t.val, 0] ∧ win0_1.index t = ![0, 0] ∧ win0_2.index t = ![t.val, 0] :=
  (by decide +kernel : ∀ t : Fin grid0.N, _)

/-- The product, entry by entry. -/
def G (X : FVec Ideal S4096x1024 .bf16) (W : FVec Ideal S1024x1024 .bf16) : S4096x1024.Idx → EReal :=
  fun z => ∑ k : Fin 1024, X (ix2 (z 0) k) * W (ix2 k (z 1))

set_option maxHeartbeats 2000000 in
theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t hf y => ?_
  have ht : t.val < 4 := lt_of_lt_of_eq t.isLt N_0
  blk_simp
  rw [after0_2]
  frame_out
  rw [pay, G]
  refine Finset.sum_congr (M := EReal) rfl fun k _ => ?_
  blk_point [iblk, V, idx_val t]

/-- The reference's product is the same sums. -/
theorem ref (X : FVec Ideal S4096x1024 .bf16) (W : FVec Ideal S1024x1024 .bf16) :
    Cert.Reference11Ideal.Read.val_main_v2 (F := Ideal) X W = G X W := by
  funext z
  rw [Cert.Reference11Ideal.Read.val_main_v2_apply, G]
  refine Finset.sum_congr rfl fun k _ => ?_
  exact congrArg₂ (· * ·) (congrArg _ (eq_ix2 _)) (congrArg _ (eq_ix2 _))

end Cert.Kernel11Ideal.Value
-- ==== Proof.Prod12.lean ====
/- The output projection of the attention layer, with the gated residual. -/
module
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel12Ideal.Value

open Cert.Kernel12Ideal Cert.Kernel12Ideal.Gen

variable (m : (ℓ : Loc nD τ sig) → Buf (Elt Ideal) ℓ)

theorem pay (x0 : Vec Ideal S1024x1024 .bf16) (x1 : Vec Ideal S1024x1024 .bf16) (y : S1024x1024.Idx) :
    k0_pay1 x0 x1 y = ∑ k : Fin 1024, x0 (ix2 (y 0) k) * x1 (ix2 k (y 1)) := by
  pointwise [k0_pay1]

theorem pay_res (x0 : Vec Ideal S1024x1024 .bf16) (x1 : Vec Ideal S1024x1024 .bf16) (x2 : Vec Ideal S1024x1024 .f32) (x3 : Vec Ideal S1x1024 .f32)
    (y : S1024x1024.Idx) :
    k0_pay2 x0 x1 x2 x3 y = x2 y + x3 (ix2 0 (y 1)) * ∑ k : Fin 1024, x0 (ix2 (y 0) k) * x1 (ix2 k (y 1)) := by
  pointwise [k0_pay2, k0_pay1]

/-- Which block of each array a grid point works on. -/
theorem idx_val : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The product, entry by entry. -/
def G (X : FVec Ideal S4096x1024 .bf16) (W : FVec Ideal S1024x1024 .bf16) : S4096x1024.Idx → EReal :=
  fun z => ∑ k : Fin 1024, X (ix2 (z 0) k) * W (ix2 k (z 1))

/-- The gated product added to the residual. -/
def H (X : FVec Ideal S4096x1024 .bf16) (W : FVec Ideal S1024x1024 .bf16) (x : FVec Ideal S4096x1024 .f32) (gt : FVec Ideal S1x1024 .f32) :
    S4096x1024.Idx → EReal :=
  fun z => x z + gt (ix2 0 (z 1)) * G X W z

set_option maxHeartbeats 2000000 in
theorem final_4 (c : Dev nD) : (dats m 0 c).arrAt 4 (cfgs 0).N
    = G (m ((c : Thread nD τ).loc main_arg0)) (m ((c : Thread nD τ).loc main_arg1)) := by
  refine (dats m 0 c).arrAt_eq_of_covers 4 _ (by decide +kernel) fun t hf y => ?_
  have ht : t.val < 4 := lt_of_lt_of_eq t.isLt N_0
  blk_simp
  rw [after0_4]
  frame_out
  rw [pay, G]
  refine Finset.sum_congr (M := EReal) rfl fun k _ => ?_
  blk_point [iblk, V, idx_val t]

set_option maxHeartbeats 2000000 in
theorem final_5 (c : Dev nD) : (dats m 0 c).arrAt 5 (cfgs 0).N
    = H (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  have ht : t.val < 4 := lt_of_lt_of_eq t.isLt N_0
  blk_simp
  rw [after0_5]
  frame_out
  rw [pay_res, H, G]
  refine congrArg₂ (HAdd.hAdd (α := EReal)) ?_ (congrArg₂ (HMul.hMul (α := EReal)) ?_ (Finset.sum_congr (M := EReal) rfl fun k _ => ?_))
  all_goals blk_point [iblk, V, idx_val t]

/-- The reference's product is the same sums. -/
theorem ref (X : FVec Ideal S4096x1024 .bf16) (W : FVec Ideal S1024x1024 .bf16) :
    Cert.Reference12Ideal.Read.val_main_v2 (F := Ideal) X W = G X W := by
  funext z
  rw [Cert.Reference12Ideal.Read.val_main_v2_apply, G]
  refine Finset.sum_congr rfl fun k _ => ?_
  exact congrArg₂ (· * ·) (congrArg _ (eq_ix2 _)) (congrArg _ (eq_ix2 _))

/-- The reference's second result: the gated product added to the residual. -/
theorem ref_res (X : FVec Ideal S4096x1024 .bf16) (W : FVec Ideal S1024x1024 .bf16) (x : FVec Ideal S4096x1024 .f32) (gt : FVec Ideal S1x1024 .f32) :
    Cert.Reference12Ideal.Read.val_main_v5 (F := Ideal) X W x gt = H X W x gt := by
  funext z
  rw [Cert.Reference12Ideal.Read.val_main_v5_apply, Cert.Reference12Ideal.Read.val_main_v4_apply,
    Cert.Reference12Ideal.Read.val_main_v3_apply, ref, H]
  exact congrArg (fun e => x z + gt e * G X W z) (eq_ix2 _)

end Cert.Kernel12Ideal.Value
-- ==== Proof.Prod13.lean ====
/- The gradient of an output projection with respect to its input. -/
module
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel13Ideal.Value

open Cert.Kernel13Ideal Cert.Kernel13Ideal.Gen

variable (m : (ℓ : Loc nD τ sig) → Buf (Elt Ideal) ℓ)

theorem pay (x0 : Vec Ideal S1024x1024 .bf16) (x1 : Vec Ideal S1024x1024 .bf16) (y : S1024x1024.Idx) :
    k0_pay1 x0 x1 y = ∑ k : Fin 1024, x0 (ix2 (y 0) k) * x1 (ix2 (y 1) k) := by
  pointwise [k0_pay1]

/-- Which block of each array a grid point works on. -/
theorem idx_val : ∀ t : Fin cfg0.N, win0_0.index t = ![t.val, 0] ∧ win0_1.index t = ![0, 0] ∧ win0_2.index t = ![t.val, 0] :=
  (by decide +kernel : ∀ t : Fin grid0.N, _)

/-- The product, entry by entry. -/
def G (X : FVec Ideal S4096x1024 .bf16) (W : FVec Ideal S1024x1024 .bf16) : S4096x1024.Idx → EReal :=
  fun z => ∑ k : Fin 1024, X (ix2 (z 0) k) * W (ix2 (z 1) k)

set_option maxHeartbeats 2000000 in
theorem final (c : Dev nD) : (dats m 0 c).arrAt 2 (cfgs 0).N = G (m ((c : Thread nD τ).loc main_arg2)) (m ((c : Thread nD τ).loc main_arg1)) := by
  refine (dats m 0 c).arrAt_eq_of_covers 2 _ (by decide +kernel) fun t hf y => ?_
  have ht : t.val < 4 := lt_of_lt_of_eq t.isLt N_0
  blk_simp
  rw [after0_2]
  frame_out
  rw [pay, G]
  refine Finset.sum_congr (M := EReal) rfl fun k _ => ?_
  blk_point [iblk, V, idx_val t]

/-- The reference's product is the same sums. -/
theorem ref (X : FVec Ideal S4096x1024 .bf16) (W : FVec Ideal S1024x1024 .bf16) :
    Cert.Reference13Ideal.Read.val_main_v6 (F := Ideal) W X = G X W := by
  funext z
  rw [Cert.Reference13Ideal.Read.val_main_v6_apply, G]
  refine Finset.sum_congr rfl fun k _ => ?_
  exact congrArg₂ (· * ·) (congrArg _ (eq_ix2 _)) (congrArg _ (eq_ix2 _))

end Cert.Kernel13Ideal.Value
-- ==== Proof.Prod14.lean ====
/- The gradient of an output projection with respect to its weight. -/
module
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel14Ideal.Value

open Cert.Kernel14Ideal Cert.Kernel14Ideal.Gen

variable (m : (ℓ : Loc nD τ sig) → Buf (Elt Ideal) ℓ)

theorem first_pay (x0 : Vec Ideal S512x1024 .bf16) (x1 : Vec Ideal S512x1024 .bf16) (y : S1024x1024.Idx) :
    k0_pay2 x0 x1 y = ∑ k : Fin 512, x0 (ix2 k (y 0)) * x1 (ix2 k (y 1)) := by
  pointwise [k0_pay2, k0_pay1]

theorem next_pay (x0 : Vec Ideal S512x1024 .bf16) (x1 : Vec Ideal S512x1024 .bf16) (acc : Vec Ideal S1024x1024 .f32) (y : S1024x1024.Idx) :
    k0_pay3 x0 x1 acc y = acc y + ∑ k : Fin 512, x0 (ix2 k (y 0)) * x1 (ix2 k (y 1)) := by
  pointwise [k0_pay3, k0_pay1]

/-- Which block of each array a grid point works on. -/
theorem idx_val : ∀ t : Fin cfg0.N, win0_0.index t = ![t.val, 0] ∧ win0_1.index t = ![t.val, 0] ∧ win0_2.index t = ![0, 0] :=
  (by decide +kernel : ∀ t : Fin grid0.N, _)

/-- The product, entry by entry. -/
def G (X : FVec Ideal S4096x1024 .bf16) (W : FVec Ideal S4096x1024 .bf16) : S1024x1024.Idx → EReal :=
  fun z => ∑ k : Fin 4096, X (ix2 k (z 0)) * W (ix2 k (z 1))

set_option maxHeartbeats 2000000 in
theorem final (c : Dev nD) : (dats m 0 c).arrAt 2 (cfgs 0).N = G (m ((c : Thread nD τ).loc main_arg0)) (m ((c : Thread nD τ).loc main_arg2)) := by
  refine (dats m 0 c).arrAt_eq_of_covers 2 _ (by decide +kernel) fun t hf y => ?_
  have hm : t.val % 8 = 7 := (flush0_2 t).mp hf
  have hlast : (outsAt0 m c t.val t.isLt).1 = (outsAt0 m c t.val t.isLt).2 := by
    rw [outsAt0_C m c t (by omega) (by omega) hm]; funext j; frame_out
  blk_simp
  rw [after0_2, hlast, Pipeline.eq_sum_fin_of_reset_step_apply_of_flush (fun n h => (outsAt0 m c n h).2) 8 (fun _ => 0) _
    (fun t h j => by
      rw [outsAt0_A m c t h (by have ht : t.val < 8 := lt_of_lt_of_eq t.isLt N_0; omega) (by omega)]; frame_out
      rw [first_pay, ← zero_add (∑ k : Fin 512, _)])
    (fun t h j => by
      by_cases h3 : t.val % 8 = 7
      · rw [outsAt0_C m c t h (by omega) h3]; frame_out; rw [next_pay]
        exact congrArg (· + _) (congrFun ((Memref.isWhole_whole cc0_scratch0).read_unread _) j)
      · rw [outsAt0_B m c t h (by omega) h3]; frame_out; rw [next_pay]
        exact congrArg (· + _) (congrFun ((Memref.isWhole_whole cc0_scratch0).read_unread _) j))
    t ((flush0_2 t).mp hf) _, zero_add]
  rw [G]
  refine Fin.sum_mul_add_congr fun s k hl => ?_
  have ht : t.val < 8 := lt_of_lt_of_eq t.isLt N_0
  blk_point [iblk, V, idx_val t, idx_val ⟨_, Pipeline.run_point_lt_of_flush t ((flush0_2 t).mp hf) s⟩]

/-- The reference's product is the same sums. -/
theorem ref (X : FVec Ideal S4096x1024 .bf16) (W : FVec Ideal S4096x1024 .bf16) :
    Cert.Reference14Ideal.Read.val_main_v5 (F := Ideal) X W = G X W := by
  funext z
  rw [Cert.Reference14Ideal.Read.val_main_v5_apply, Cert.Reference14Ideal.Read.val_main_v4_apply, G]
  refine Finset.sum_congr rfl fun k _ => ?_
  rw [mul_comm]; exact congrArg₂ (· * ·) (congrArg _ (eq_ix2 _)) (congrArg _ (eq_ix2 _))

end Cert.Kernel14Ideal.Value
-- ==== Proof.FSpec.lean ====
/- The attention's output over the arrays. -/
module

public import proofs.«01_k».proof.Proof.Spec

@[expose] public section

set_option maxRecDepth 16384

noncomputable section

open Idealize.ShloMosaic
open scoped BigOperators

namespace Cert.Attn

/-- The output of one group of eight heads. -/
def hO (Q : Fin 1024 → Fin 64 → EReal) (K V : Fin 256 → Fin 64 → EReal) (B : Fin 1024 → Fin 256 → EReal) (sk : Fin 1024 → EReal)
    (r : Fin 1024) (d : Fin 64) : EReal := ∑ j, rProb (hS Q K B r) (sk r) j * V j d

theorem exp_nn (x : EReal) : 0 ≤ Ideal.exp x := by
  induction x using EReal.rec with
  | bot => exact le_rfl
  | top => exact le_top
  | coe r => exact EReal.coe_nonneg.mpr (Real.exp_pos r).le

/-- A row whose denominator vanishes has `⊥` for every probability. -/
theorem rProb_den (s : Fin 256 → EReal) (σ : EReal) (hd : rDen s σ = 0) (j : Fin 256) : rProb s σ j = ⊥ := by
  have h1 : rP s σ j ≤ rDen s σ :=
    (Finset.single_le_sum (f := rP s σ) (fun i _ => exp_nn _) (Finset.mem_univ j)).trans (le_add_of_nonneg_right (exp_nn _))
  rw [hd] at h1
  rw [rProb, hd, Ideal.div, if_pos rfl, if_neg (not_lt.mpr h1)]

/-- Otherwise a masked key has probability zero. -/
theorem rProb_mask (s : Fin 256 → EReal) (σ : EReal) (hd : rDen s σ ≠ 0) (j : Fin 256) (hj : s j = ⊥) : rProb s σ j = 0 := by
  rw [rProb, rP_bot s σ hj, Ideal.div, if_neg hd, zero_mul]

theorem bot_twice (x : EReal) : ⊥ * x + ⊥ * x = (⊥ : EReal) * x := by
  rcases lt_trichotomy x 0 with h | h | h
  · rw [EReal.bot_mul_of_neg h]; rfl
  · rw [h, mul_zero, add_zero]
  · rw [EReal.bot_mul_of_pos h]; rfl

/-- The first block's own values in the place of the missing ones change nothing, when every probability is `⊥`. -/
theorem first_twice (V V' : Fin 256 → EReal) (f : Fin 128 → EReal) (h0 : ∀ j : Fin 128, V (Fin.castAdd 128 j) = f j) (h1 : ∀ j : Fin 128, V (Fin.natAdd 128 j) = f j)
    (h0' : ∀ j : Fin 128, V' (Fin.castAdd 128 j) = 0) (h1' : ∀ j : Fin 128, V' (Fin.natAdd 128 j) = f j) :
    ∑ j, (⊥ : EReal) * V j = ∑ j, ⊥ * V' j := by
  rw [show (∑ j, (⊥ : EReal) * V j) = ∑ j : Fin (128 + 128), ⊥ * V j from rfl, show (∑ j, (⊥ : EReal) * V' j) = ∑ j : Fin (128 + 128), ⊥ * V' j from rfl,
    Fin.sum_univ_add, Fin.sum_univ_add]
  simp only [h0, h1, h0', h1', mul_zero, Finset.sum_const_zero, zero_add]
  rw [← Finset.sum_add_distrib]
  exact Finset.sum_congr rfl fun j _ => bot_twice _

/-- The band with the first block in the place of the missing one gives the same output. -/
theorem hO_clamp (q : Fin 4096 → Fin 1024 → EReal) (k v : Fin 4096 → Fin 128 → EReal) (s : Fin 128 → EReal) (n : Fin 32) (h : Fin 2) (r : Fin 1024) (d : Fin 64) :
    hO (bQ q n h) (bKc k n h) (bKc v n h) (bB n) (bS s h) r d = hO (bQ q n h) (bK k n h) (bK v n h) (bB n) (bS s h) r d := by
  unfold hO
  rw [hS_congr (bQ q n h) (bKc k n h) (bKc v n h) (bK k n h) (bK v n h) (bB n) (band_same k v n h)]
  by_cases hd : rDen (hS (bQ q n h) (bK k n h) (bB n) r) (bS s h r) = 0
  · simp only [rProb_den _ _ hd]
    by_cases hn : n.val = 0
    · refine first_twice (fun j => bKc v n h j d) (fun j => bK v n h j d) (fun j => v ⟨j.val, by omega⟩ ⟨64 * h.val + d.val, by omega⟩) ?_ ?_ ?_ ?_
      · intro j
        simp [bKc, hn]
      · intro j
        simp [bKc, hn]
      · intro j
        simp [bK, hn]
      · intro j
        simp [bK, hn]
    · refine Finset.sum_congr rfl fun j _ => ?_
      have hj : 128 ≤ 128 * n.val + j.val := by omega
      rcases band_same k v n h r j with hb | hb
      · rw [bKc, bK, dif_pos hj]
        split_ifs with h1
        · exact congrArg (fun i => ⊥ * v i _) (Fin.ext (by first | omega | (dsimp only; omega)))
        · exact congrArg (fun i => ⊥ * v i _) (Fin.ext (by first | omega | (dsimp only; omega)))
      · rw [hb.2]
  · refine Finset.sum_congr rfl fun j _ => ?_
    rcases band_same k v n h r j with hb | hb
    · rw [rProb_mask _ _ hd j (hS_bot (bQ q n h) (bK k n h) (bB n) hb), zero_mul, zero_mul]
    · rw [hb.2]

/-- The attention's output: block by block of 128 queries, one group for each key head. -/
def sO (q : Fin 4096 → Fin 1024 → EReal) (k v : Fin 4096 → Fin 128 → EReal) (s : Fin 128 → EReal) (i : Fin 4096) (e : Fin 1024) : EReal :=
  let n : Fin 32 := ⟨i.val / 128, by omega⟩
  let h : Fin 2 := ⟨e.val / 512, by omega⟩
  hO (bQ q n h) (bK k n h) (bK v n h) (bB n) (bS s h) ⟨128 * (e.val / 64 % 8) + i.val % 128, by omega⟩ ⟨e.val % 64, by omega⟩

theorem sO_at (q : Fin 4096 → Fin 1024 → EReal) (k v : Fin 4096 → Fin 128 → EReal) (s : Fin 128 → EReal)
    (n : Fin 32) (h : Fin 2) (r : Fin 1024) (d : Fin 64) (i : Fin 4096) (e : Fin 1024) (hn : i.val / 128 = n.val) (hh : e.val / 512 = h.val)
    (hr : 128 * (e.val / 64 % 8) + i.val % 128 = r.val) (hd : e.val % 64 = d.val) :
    hO (bQ q n h) (bK k n h) (bK v n h) (bB n) (bS s h) r d = sO q k v s i e := by
  obtain ⟨n, _⟩ := n
  obtain ⟨h, _⟩ := h
  obtain ⟨r, _⟩ := r
  obtain ⟨d, _⟩ := d
  dsimp only at hn hh hr hd
  subst hn hh hr hd
  rfl

end Cert.Attn
-- ==== Proof.FKernel.lean ====
/- The attention's forward call: what one grid point computes, and the array the call leaves. -/
module

public import proofs.«01_k».proof.Proof.KBias
public import proofs.«01_k».proof.Proof.FSpec
public import proofs.«01_k».proof.Proof.Gen.Kernel15Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel15Ideal.Value

open Cert.Kernel15Ideal Cert.Kernel15Ideal.Gen Cert.Attn
open Cert.KernelIdeal.Value (lane_select sum_lane ix2_congr word_mod word_win word_ge select_and select_one)

/-! ## One group of eight heads -/

theorem group0 (σ : Vec Ideal S1x128 .f32) (v : FVec Ideal S256x64 .f32) (s : FVec Ideal S1024x256 .f32) (r : Fin 1024) (d : Fin 64) :
    k0_pay10 σ v s k0_pay9 (ix2 r d)
      = ∑ j : Fin 256, rProb (fun j => s (ix2 r j)) (σ (ix2 0 ⟨r.val / 128, by omega⟩)) j * v (ix2 j d) := by
  unfold k0_pay10
  pointwise [k0_pay9]
  simp only [lane_select r _ 0 (by omega), sum_lane 0 (by omega) r, bits_bot]
  rfl

theorem group1 (σ : Vec Ideal S1x128 .f32) (β : FVec Ideal S1024x256 .f32) (k v : FVec Ideal S256x64 .f32) (q : FVec Ideal S1024x64 .bf16) (r : Fin 1024) (d : Fin 64) :
    k0_pay22 σ β k v q (ix2 r d)
      = ∑ j : Fin 256, rProb (fun j => (∑ d : Fin 64, q (ix2 r d) * k (ix2 j d)) * c8 + β (ix2 r j)) (σ (ix2 0 ⟨r.val / 128 + 8, by omega⟩)) j * v (ix2 j d) := by
  unfold k0_pay22
  pointwise []
  simp only [lane_select r _ 8 (by omega), sum_lane 8 (by omega) r, bits_bot]
  rfl

theorem scores0 (x : Vec Ideal S1x1024x256 .f32) (a b q0 q1 q2 q3 q4 q5 q6 q7 : Vec Ideal S128x64 .f32) (r : Fin 1024) (j : Fin 256) :
    k0_pay8 x a b q0 q1 q2 q3 q4 q5 q6 q7 (ix2 r j)
      = (∑ d : Fin 64, k0_pay21 q0 q1 q2 q3 q4 q5 q6 q7 (ix2 r d) * k0_pay7 a b (ix2 j d)) * c8 + k0_pay6 x (ix2 r j) := by
  unfold k0_pay8 c8 k0_pay21 k0_pay7
  pointwise []

/-! ## The loads -/

theorem ldq0 (x : Vec Ideal S128x1024 .f32) (i : Fin 128) (d : Fin 64) :
    View.ld x r0_3 (ix2 i d) = x (ix2 i ⟨0 + 0 + d.val, by omega⟩) := by
  unfold r0_3
  rw [View.ld_unit]
  pointwise []

theorem ldq1 (x : Vec Ideal S128x1024 .f32) (i : Fin 128) (d : Fin 64) :
    View.ld x r0_4 (ix2 i d) = x (ix2 i ⟨0 + 64 + d.val, by omega⟩) := by
  unfold r0_4
  rw [View.ld_unit]
  pointwise []

theorem ldq2 (x : Vec Ideal S128x1024 .f32) (i : Fin 128) (d : Fin 64) :
    View.ld x r0_5 (ix2 i d) = x (ix2 i ⟨0 + 128 + d.val, by omega⟩) := by
  unfold r0_5
  rw [View.ld_unit]
  pointwise []

theorem ldq3 (x : Vec Ideal S128x1024 .f32) (i : Fin 128) (d : Fin 64) :
    View.ld x r0_6 (ix2 i d) = x (ix2 i ⟨0 + 192 + d.val, by omega⟩) := by
  unfold r0_6
  rw [View.ld_unit]
  pointwise []

theorem ldq4 (x : Vec Ideal S128x1024 .f32) (i : Fin 128) (d : Fin 64) :
    View.ld x r0_7 (ix2 i d) = x (ix2 i ⟨0 + 256 + d.val, by omega⟩) := by
  unfold r0_7
  rw [View.ld_unit]
  pointwise []

theorem ldq5 (x : Vec Ideal S128x1024 .f32) (i : Fin 128) (d : Fin 64) :
    View.ld x r0_8 (ix2 i d) = x (ix2 i ⟨0 + 320 + d.val, by omega⟩) := by
  unfold r0_8
  rw [View.ld_unit]
  pointwise []

theorem ldq6 (x : Vec Ideal S128x1024 .f32) (i : Fin 128) (d : Fin 64) :
    View.ld x r0_9 (ix2 i d) = x (ix2 i ⟨0 + 384 + d.val, by omega⟩) := by
  unfold r0_9
  rw [View.ld_unit]
  pointwise []

theorem ldq7 (x : Vec Ideal S128x1024 .f32) (i : Fin 128) (d : Fin 64) :
    View.ld x r0_10 (ix2 i d) = x (ix2 i ⟨0 + 448 + d.val, by omega⟩) := by
  unfold r0_10
  rw [View.ld_unit]
  pointwise []

theorem ldq8 (x : Vec Ideal S128x1024 .f32) (i : Fin 128) (d : Fin 64) :
    View.ld x r0_12 (ix2 i d) = x (ix2 i ⟨512 + 0 + d.val, by omega⟩) := by
  unfold r0_12
  rw [View.ld_unit]
  pointwise []

theorem ldq9 (x : Vec Ideal S128x1024 .f32) (i : Fin 128) (d : Fin 64) :
    View.ld x r0_13 (ix2 i d) = x (ix2 i ⟨512 + 64 + d.val, by omega⟩) := by
  unfold r0_13
  rw [View.ld_unit]
  pointwise []

theorem ldq10 (x : Vec Ideal S128x1024 .f32) (i : Fin 128) (d : Fin 64) :
    View.ld x r0_14 (ix2 i d) = x (ix2 i ⟨512 + 128 + d.val, by omega⟩) := by
  unfold r0_14
  rw [View.ld_unit]
  pointwise []

theorem ldq11 (x : Vec Ideal S128x1024 .f32) (i : Fin 128) (d : Fin 64) :
    View.ld x r0_15 (ix2 i d) = x (ix2 i ⟨512 + 192 + d.val, by omega⟩) := by
  unfold r0_15
  rw [View.ld_unit]
  pointwise []

theorem ldq12 (x : Vec Ideal S128x1024 .f32) (i : Fin 128) (d : Fin 64) :
    View.ld x r0_16 (ix2 i d) = x (ix2 i ⟨512 + 256 + d.val, by omega⟩) := by
  unfold r0_16
  rw [View.ld_unit]
  pointwise []

theorem ldq13 (x : Vec Ideal S128x1024 .f32) (i : Fin 128) (d : Fin 64) :
    View.ld x r0_17 (ix2 i d) = x (ix2 i ⟨512 + 320 + d.val, by omega⟩) := by
  unfold r0_17
  rw [View.ld_unit]
  pointwise []

theorem ldq14 (x : Vec Ideal S128x1024 .f32) (i : Fin 128) (d : Fin 64) :
    View.ld x r0_18 (ix2 i d) = x (ix2 i ⟨512 + 384 + d.val, by omega⟩) := by
  unfold r0_18
  rw [View.ld_unit]
  pointwise []

theorem ldq15 (x : Vec Ideal S128x1024 .f32) (i : Fin 128) (d : Fin 64) :
    View.ld x r0_19 (ix2 i d) = x (ix2 i ⟨512 + 448 + d.val, by omega⟩) := by
  unfold r0_19
  rw [View.ld_unit]
  pointwise []

theorem lds (x : Vec Ideal S1x128 .f32) (e : Fin 128) : View.ld x r0_0 (ix2 0 e) = x (ix2 0 e) := by
  unfold r0_0
  rw [View.ld_unit]
  pointwise []

theorem ldb (x : Vec Ideal S1x1024x256 .f32) (r : Fin 1024) (j : Fin 256) : k0_pay6 (View.ld x r0_1) (ix2 r j) = k0_pay6 x (ix2 r j) := by
  unfold r0_1 k0_pay6
  rw [View.ld_unit]
  pointwise []

/-- Eight tiles stacked, read at a row of the stack. -/
theorem stack_of (q0 q1 q2 q3 q4 q5 q6 q7 : Vec Ideal S128x64 .f32) (X : Vec Ideal S128x1024 .f32) (o : ℕ) (ho : o ≤ 512)
    (h0 : ∀ i d, q0 (ix2 i d) = X (ix2 i ⟨o + 0 + d.val, by omega⟩))
    (h1 : ∀ i d, q1 (ix2 i d) = X (ix2 i ⟨o + 64 + d.val, by omega⟩))
    (h2 : ∀ i d, q2 (ix2 i d) = X (ix2 i ⟨o + 128 + d.val, by omega⟩))
    (h3 : ∀ i d, q3 (ix2 i d) = X (ix2 i ⟨o + 192 + d.val, by omega⟩))
    (h4 : ∀ i d, q4 (ix2 i d) = X (ix2 i ⟨o + 256 + d.val, by omega⟩))
    (h5 : ∀ i d, q5 (ix2 i d) = X (ix2 i ⟨o + 320 + d.val, by omega⟩))
    (h6 : ∀ i d, q6 (ix2 i d) = X (ix2 i ⟨o + 384 + d.val, by omega⟩))
    (h7 : ∀ i d, q7 (ix2 i d) = X (ix2 i ⟨o + 448 + d.val, by omega⟩))
    (r : Fin 1024) (d : Fin 64) :
    k0_pay21 q0 q1 q2 q3 q4 q5 q6 q7 (ix2 r d) = X (ix2 ⟨r.val % 128, by omega⟩ ⟨o + 64 * (r.val / 128) + d.val, by omega⟩) := by
  unfold k0_pay21
  pointwise []
  simp only [h0, h1, h2, h3, h4, h5, h6, h7]
  split_ifs <;> exact congrArg X (ix2_congr (by dsimp only; omega) (by dsimp only; omega))

theorem stack0 (x : Vec Ideal S128x1024 .f32) (r : Fin 1024) (d : Fin 64) :
    k0_pay21 (View.ld x r0_3) (View.ld x r0_4) (View.ld x r0_5) (View.ld x r0_6) (View.ld x r0_7) (View.ld x r0_8) (View.ld x r0_9) (View.ld x r0_10) (ix2 r d)
      = x (ix2 ⟨r.val % 128, by omega⟩ ⟨512 * 0 + 64 * (r.val / 128) + d.val, by omega⟩) :=
  stack_of _ _ _ _ _ _ _ _ x 0 (by omega) (ldq0 x) (ldq1 x) (ldq2 x) (ldq3 x) (ldq4 x) (ldq5 x) (ldq6 x) (ldq7 x) r d

theorem stack1 (x : Vec Ideal S128x1024 .f32) (r : Fin 1024) (d : Fin 64) :
    k0_pay21 (View.ld x r0_12) (View.ld x r0_13) (View.ld x r0_14) (View.ld x r0_15) (View.ld x r0_16) (View.ld x r0_17) (View.ld x r0_18) (View.ld x r0_19) (ix2 r d)
      = x (ix2 ⟨r.val % 128, by omega⟩ ⟨512 * 1 + 64 * (r.val / 128) + d.val, by omega⟩) :=
  stack_of _ _ _ _ _ _ _ _ x 512 (by omega) (ldq8 x) (ldq9 x) (ldq10 x) (ldq11 x) (ldq12 x) (ldq13 x) (ldq14 x) (ldq15 x) r d

theorem bandv0 (x y : Vec Ideal S128x128 .f32) (j : Fin 256) (d : Fin 64) :
    k0_pay7 (View.ld x r0_2) (View.ld y r0_2) (ix2 j d)
      = if h : j.val < 128 then x (ix2 ⟨j.val, h⟩ ⟨64 * 0 + d.val, by omega⟩) else y (ix2 ⟨j.val - 128, by omega⟩ ⟨64 * 0 + d.val, by omega⟩) := by
  unfold k0_pay7
  pointwise []

theorem bandk1 (x y : Vec Ideal S128x128 .f32) (j : Fin 256) (d : Fin 64) :
    k0_pay19 (View.ld x r0_11) (View.ld y r0_11) (ix2 j d)
      = if h : j.val < 128 then x (ix2 ⟨j.val, h⟩ ⟨64 * 1 + d.val, by omega⟩) else y (ix2 ⟨j.val - 128, by omega⟩ ⟨64 * 1 + d.val, by omega⟩) := by
  unfold k0_pay19
  pointwise []

theorem bandv1 (x y : Vec Ideal S128x128 .f32) (j : Fin 256) (d : Fin 64) :
    k0_pay20 (View.ld x r0_11) (View.ld y r0_11) (ix2 j d)
      = if h : j.val < 128 then x (ix2 ⟨j.val, h⟩ ⟨64 * 1 + d.val, by omega⟩) else y (ix2 ⟨j.val - 128, by omega⟩ ⟨64 * 1 + d.val, by omega⟩) := by
  unfold k0_pay20
  pointwise []

/-! ## The blocks of a grid point -/

theorem idx_val : ∀ t : Fin cfg0.N, win0_0.index t = ![t.val, 0] ∧ win0_1.index t = ![t.val - 1, 0] ∧ win0_2.index t = ![t.val, 0]
    ∧ win0_3.index t = ![t.val - 1, 58] ∧ win0_4.index t = ![t.val, 58] ∧ win0_5.index t = ![0, 0] ∧ win0_6.index t = ![min t.val 1, 0, 0]
    ∧ win0_7.index t = ![t.val, 0] :=
  (by decide +kernel : ∀ t : Fin grid0.N, _)

variable (m : (ℓ : Loc nD τ sig) → Buf (Elt Ideal) ℓ)

def aQ (c : Dev nD) (i : Fin 4096) (e : Fin 1024) : EReal := (m ((c : Thread nD τ).loc main_arg0) : FVec Ideal S4096x1024 .f32) (ix2 i e)
def aK (c : Dev nD) (i : Fin 4096) (e : Fin 128) : EReal := (m ((c : Thread nD τ).loc main_arg1) : FVec Ideal S4096x128 .f32) (ix2 i e)
def aV (c : Dev nD) (i : Fin 4096) (e : Fin 128) : EReal := (m ((c : Thread nD τ).loc main_arg2) : FVec Ideal S4096x7680 .f32) (ix2 i ⟨7424 + e.val, by omega⟩)
def aS (c : Dev nD) (e : Fin 128) : EReal := (m ((c : Thread nD τ).loc main_arg3) : FVec Ideal S1x128 .f32) (ix2 0 e)

theorem t_lt (t : Fin cfg0.N) : t.val < 32 := t.isLt

/-- The block of a grid point. -/
def tn (t : Fin cfg0.N) : Fin 32 := ⟨t.val, t_lt t⟩

theorem blk0 (c : Dev nD) (t : Fin cfg0.N) (i : Fin 128) (e : Fin 1024) :
    (iblk m c 0 t : FVec Ideal S128x1024 .f32) (ix2 i e) = (m ((c : Thread nD τ).loc main_arg0) : FVec Ideal S4096x1024 .f32) (ix2 ⟨128 * t.val + i.val, by have := t_lt t; omega⟩ e) := by
  blk_point [iblk, V, idx_val t]

theorem blk1 (c : Dev nD) (t : Fin cfg0.N) (i : Fin 128) (e : Fin 128) :
    (iblk m c 1 t : FVec Ideal S128x128 .f32) (ix2 i e) = (m ((c : Thread nD τ).loc main_arg1) : FVec Ideal S4096x128 .f32) (ix2 ⟨128 * (t.val - 1) + i.val, by have := t_lt t; omega⟩ e) := by
  blk_point [iblk, V, idx_val t]

theorem blk2 (c : Dev nD) (t : Fin cfg0.N) (i : Fin 128) (e : Fin 128) :
    (iblk m c 2 t : FVec Ideal S128x128 .f32) (ix2 i e) = (m ((c : Thread nD τ).loc main_arg1) : FVec Ideal S4096x128 .f32) (ix2 ⟨128 * t.val + i.val, by have := t_lt t; omega⟩ e) := by
  blk_point [iblk, V, idx_val t]

theorem blk3 (c : Dev nD) (t : Fin cfg0.N) (i : Fin 128) (e : Fin 128) :
    (iblk m c 3 t : FVec Ideal S128x128 .f32) (ix2 i e) = (m ((c : Thread nD τ).loc main_arg2) : FVec Ideal S4096x7680 .f32) (ix2 ⟨128 * (t.val - 1) + i.val, by have := t_lt t; omega⟩ ⟨7424 + e.val, by omega⟩) := by
  blk_point [iblk, V, idx_val t]

theorem blk4 (c : Dev nD) (t : Fin cfg0.N) (i : Fin 128) (e : Fin 128) :
    (iblk m c 4 t : FVec Ideal S128x128 .f32) (ix2 i e) = (m ((c : Thread nD τ).loc main_arg2) : FVec Ideal S4096x7680 .f32) (ix2 ⟨128 * t.val + i.val, by have := t_lt t; omega⟩ ⟨7424 + e.val, by omega⟩) := by
  blk_point [iblk, V, idx_val t]

theorem blk5 (c : Dev nD) (t : Fin cfg0.N) (e : Fin 128) :
    (iblk m c 5 t : FVec Ideal S1x128 .f32) (ix2 0 e) = (m ((c : Thread nD τ).loc main_arg3) : FVec Ideal S1x128 .f32) (ix2 0 e) := by
  blk_point [iblk, V, idx_val t]

set_option maxHeartbeats 2000000 in
/-- The additive mask the host prepares: zero on the window of keys inside the sequence, `⊥` elsewhere. -/
theorem blk6 (c : Dev nD) (t : Fin cfg0.N) (r : Fin 1024) (j : Fin 256) :
    k0_pay6 (F := Ideal) (iblk m c 6 t) (ix2 r j) = bB (tn t) r j := by
  unfold k0_pay6 bB tn
  pointwise []
  blk_simp [iblk, idx_val t]
  simp only [V, hostOps0, hostOps0_1, hostOps0_2, hostOps0_3, hostOps0_4, hostOps0_5, hostOps0_6, List.flatten_cons, List.flatten_nil, List.cons_append, List.nil_append, List.append_nil]
  entry_read
  simp -implicitDefEqProofs only [StableHlo.TRef.toBuf, StableHlo.TRef.ofBuf, cast_cast, cast_eq, id_eq]
  pointwise []
  blk_simp [idx_val t]
  have hw := word_win ⟨r.val % 128, by omega⟩ j
  dsimp only at hw
  simp only [word_mod, hw, word_ge, Cert.Attn.bits_bot, select_and, select_one]
  have := t_lt t
  split_ifs <;> first | rfl | (exfalso; omega)

/-! ## The outputs of a grid point -/

theorem pt0 (c : Dev nD) (t : Fin cfg0.N) (r : Fin 1024) (d : Fin 64) :
    k0_pay30 (iblk m c 0 t) (iblk m c 1 t) (iblk m c 2 t) (iblk m c 3 t) (iblk m c 4 t) (iblk m c 5 t) (iblk m c 6 t) (ix2 r d)
      = hO (bQ (aQ m c) (tn t) 0) (bK (aK m c) (tn t) 0) (bK (aV m c) (tn t) 0) (bB (tn t)) (bS (aS m c) 0) r d := by
  unfold k0_pay30 k0_pay29
  rw [group0, ← hO_clamp, hO]
  have hs : (fun j => k0_pay28 (iblk m c 0 t) (iblk m c 1 t) (iblk m c 2 t) (iblk m c 3 t) (iblk m c 4 t) (iblk m c 5 t) (iblk m c 6 t) (ix2 r j)) = hS (bQ (aQ m c) (tn t) 0) (bKc (aK m c) (tn t) 0) (bB (tn t)) r := by
    funext j
    unfold k0_pay28
    rw [scores0, ldb, blk6, hS]
    refine congrArg (· * c8 + _) (Finset.sum_congr (M := EReal) rfl fun d _ => ?_)
    rw [stack0, bandv0, blk0, bQ, aQ, bKc]
    refine congrArg₂ (· * ·) rfl ?_
    split_ifs
    · rw [blk1]; rfl
    · rw [blk2]; rfl
  rw [hs, lds, blk5]
  refine Finset.sum_congr (M := EReal) rfl fun j _ => congrArg₂ (· * ·) ?_ ?_
  · exact congrArg (fun x => rProb _ x j) (congrArg (aS m c) (Fin.ext (by simp)))
  · unfold k0_pay27
    rw [bandv0, bKc]
    split_ifs
    · rw [blk3]; rfl
    · rw [blk4]; rfl

theorem pt1 (c : Dev nD) (t : Fin cfg0.N) (r : Fin 1024) (d : Fin 64) :
    k0_pay34 (iblk m c 0 t) (iblk m c 1 t) (iblk m c 2 t) (iblk m c 3 t) (iblk m c 4 t) (iblk m c 5 t) (iblk m c 6 t) (ix2 r d)
      = hO (bQ (aQ m c) (tn t) 1) (bK (aK m c) (tn t) 1) (bK (aV m c) (tn t) 1) (bB (tn t)) (bS (aS m c) 1) r d := by
  unfold k0_pay34
  rw [group1, ← hO_clamp, hO]
  have hs : (fun j => (∑ d : Fin 64, k0_pay33 (iblk m c 0 t) (iblk m c 1 t) (iblk m c 2 t) (iblk m c 3 t) (iblk m c 4 t) (iblk m c 5 t) (iblk m c 6 t) (ix2 r d) * k0_pay31 (iblk m c 0 t) (iblk m c 1 t) (iblk m c 2 t) (iblk m c 3 t) (iblk m c 4 t) (iblk m c 5 t) (iblk m c 6 t) (ix2 j d)) * c8 + k0_pay26 (iblk m c 0 t) (iblk m c 1 t) (iblk m c 2 t) (iblk m c 3 t) (iblk m c 4 t) (iblk m c 5 t) (iblk m c 6 t) (ix2 r j))
      = hS (bQ (aQ m c) (tn t) 1) (bKc (aK m c) (tn t) 1) (bB (tn t)) r := by
    funext j
    unfold k0_pay26 k0_pay31 k0_pay33
    rw [ldb, blk6, hS]
    refine congrArg (· * c8 + _) (Finset.sum_congr (M := EReal) rfl fun d _ => ?_)
    rw [stack1, bandk1, blk0, bQ, aQ, bKc]
    refine congrArg₂ (· * ·) rfl ?_
    split_ifs
    · rw [blk1]; rfl
    · rw [blk2]; rfl
  rw [hs, lds, blk5]
  refine Finset.sum_congr (M := EReal) rfl fun j _ => congrArg₂ (· * ·) ?_ ?_
  · exact congrArg (fun x => rProb _ x j) (congrArg (aS m c) (Fin.ext (by simp; omega)))
  · unfold k0_pay32
    rw [bandv1, bKc]
    split_ifs
    · rw [blk3]; rfl
    · rw [blk4]; rfl

theorem rows (o : ℕ) (X : FVec Ideal S1024x64 .f32) (h : S1024x64.Slices ![o, 0] S128x64) (ho : o ≤ 896) (x : S128x64.Idx) :
    extractStridedSlice S128x64 ![o, 0] X h x = X (ix2 ⟨o + (x 0).val, by have := (x 0).isLt; change (x 0).val < 128 at this; omega⟩ (x 1)) := by
  obtain ⟨i, d, rfl⟩ : ∃ i d, x = ix2 i d := ⟨x 0, x 1, eq_ix2 x⟩
  pointwise []

set_option maxHeartbeats 2000000 in
theorem point (c : Dev nD) (t : Fin cfg0.N) (y) :
    out0_7 (iblk m c 0 t) (iblk m c 1 t) (iblk m c 2 t) (iblk m c 3 t) (iblk m c 4 t) (iblk m c 5 t) (iblk m c 6 t) y
      = (fun z => sO (aQ m c) (aK m c) (aV m c) (aS m c) (z 0) (z 1) : S4096x1024.Idx → EReal) (((cfg0.win 7).blk t).view.emb y) := by
  unfold out0_7
  canon_tiles x hh
  all_goals have x0_lt : (x 0).val < 128 := (x 0).isLt
  all_goals have x1_lt : (x 1).val < 64 := (x 1).isLt
  all_goals have y0_lt : (y 0).val < 128 := (y 0).isLt
  · refine (rows 896 (k0_pay34 (iblk m c 0 t) (iblk m c 1 t) (iblk m c 2 t) (iblk m c 3 t) (iblk m c 4 t) (iblk m c 5 t) (iblk m c 6 t)) slices_S1024x64_o896_0_S128x64 (by decide) x).trans ((pt1 m c t _ _).trans (sO_at _ _ _ _ (tn t) 1 _ _ _ _ ?_ ?_ ?_ ?_))
    all_goals blk_simp [idx_val t]
    all_goals simp [tn]
    all_goals omega
  · refine (rows 768 (k0_pay34 (iblk m c 0 t) (iblk m c 1 t) (iblk m c 2 t) (iblk m c 3 t) (iblk m c 4 t) (iblk m c 5 t) (iblk m c 6 t)) slices_S1024x64_o768_0_S128x64 (by decide) x).trans ((pt1 m c t _ _).trans (sO_at _ _ _ _ (tn t) 1 _ _ _ _ ?_ ?_ ?_ ?_))
    all_goals blk_simp [idx_val t]
    all_goals simp [tn]
    all_goals omega
  · refine (rows 640 (k0_pay34 (iblk m c 0 t) (iblk m c 1 t) (iblk m c 2 t) (iblk m c 3 t) (iblk m c 4 t) (iblk m c 5 t) (iblk m c 6 t)) slices_S1024x64_o640_0_S128x64 (by decide) x).trans ((pt1 m c t _ _).trans (sO_at _ _ _ _ (tn t) 1 _ _ _ _ ?_ ?_ ?_ ?_))
    all_goals blk_simp [idx_val t]
    all_goals simp [tn]
    all_goals omega
  · refine (rows 512 (k0_pay34 (iblk m c 0 t) (iblk m c 1 t) (iblk m c 2 t) (iblk m c 3 t) (iblk m c 4 t) (iblk m c 5 t) (iblk m c 6 t)) slices_S1024x64_o512_0_S128x64 (by decide) x).trans ((pt1 m c t _ _).trans (sO_at _ _ _ _ (tn t) 1 _ _ _ _ ?_ ?_ ?_ ?_))
    all_goals blk_simp [idx_val t]
    all_goals simp [tn]
    all_goals omega
  · refine (rows 384 (k0_pay34 (iblk m c 0 t) (iblk m c 1 t) (iblk m c 2 t) (iblk m c 3 t) (iblk m c 4 t) (iblk m c 5 t) (iblk m c 6 t)) slices_S1024x64_o384_0_S128x64 (by decide) x).trans ((pt1 m c t _ _).trans (sO_at _ _ _ _ (tn t) 1 _ _ _ _ ?_ ?_ ?_ ?_))
    all_goals blk_simp [idx_val t]
    all_goals simp [tn]
    all_goals omega
  · refine (rows 256 (k0_pay34 (iblk m c 0 t) (iblk m c 1 t) (iblk m c 2 t) (iblk m c 3 t) (iblk m c 4 t) (iblk m c 5 t) (iblk m c 6 t)) slices_S1024x64_o256_0_S128x64 (by decide) x).trans ((pt1 m c t _ _).trans (sO_at _ _ _ _ (tn t) 1 _ _ _ _ ?_ ?_ ?_ ?_))
    all_goals blk_simp [idx_val t]
    all_goals simp [tn]
    all_goals omega
  · refine (rows 128 (k0_pay34 (iblk m c 0 t) (iblk m c 1 t) (iblk m c 2 t) (iblk m c 3 t) (iblk m c 4 t) (iblk m c 5 t) (iblk m c 6 t)) slices_S1024x64_o128_0_S128x64 (by decide) x).trans ((pt1 m c t _ _).trans (sO_at _ _ _ _ (tn t) 1 _ _ _ _ ?_ ?_ ?_ ?_))
    all_goals blk_simp [idx_val t]
    all_goals simp [tn]
    all_goals omega
  · refine (rows 0 (k0_pay34 (iblk m c 0 t) (iblk m c 1 t) (iblk m c 2 t) (iblk m c 3 t) (iblk m c 4 t) (iblk m c 5 t) (iblk m c 6 t)) slices_S1024x64_o0_0_S128x64 (by decide) x).trans ((pt1 m c t _ _).trans (sO_at _ _ _ _ (tn t) 1 _ _ _ _ ?_ ?_ ?_ ?_))
    all_goals blk_simp [idx_val t]
    all_goals simp [tn]
    all_goals omega
  · refine (rows 896 (k0_pay30 (iblk m c 0 t) (iblk m c 1 t) (iblk m c 2 t) (iblk m c 3 t) (iblk m c 4 t) (iblk m c 5 t) (iblk m c 6 t)) slices_S1024x64_o896_0_S128x64 (by decide) x).trans ((pt0 m c t _ _).trans (sO_at _ _ _ _ (tn t) 0 _ _ _ _ ?_ ?_ ?_ ?_))
    all_goals blk_simp [idx_val t]
    all_goals simp [tn]
    all_goals omega
  · refine (rows 768 (k0_pay30 (iblk m c 0 t) (iblk m c 1 t) (iblk m c 2 t) (iblk m c 3 t) (iblk m c 4 t) (iblk m c 5 t) (iblk m c 6 t)) slices_S1024x64_o768_0_S128x64 (by decide) x).trans ((pt0 m c t _ _).trans (sO_at _ _ _ _ (tn t) 0 _ _ _ _ ?_ ?_ ?_ ?_))
    all_goals blk_simp [idx_val t]
    all_goals simp [tn]
    all_goals omega
  · refine (rows 640 (k0_pay30 (iblk m c 0 t) (iblk m c 1 t) (iblk m c 2 t) (iblk m c 3 t) (iblk m c 4 t) (iblk m c 5 t) (iblk m c 6 t)) slices_S1024x64_o640_0_S128x64 (by decide) x).trans ((pt0 m c t _ _).trans (sO_at _ _ _ _ (tn t) 0 _ _ _ _ ?_ ?_ ?_ ?_))
    all_goals blk_simp [idx_val t]
    all_goals simp [tn]
    all_goals omega
  · refine (rows 512 (k0_pay30 (iblk m c 0 t) (iblk m c 1 t) (iblk m c 2 t) (iblk m c 3 t) (iblk m c 4 t) (iblk m c 5 t) (iblk m c 6 t)) slices_S1024x64_o512_0_S128x64 (by decide) x).trans ((pt0 m c t _ _).trans (sO_at _ _ _ _ (tn t) 0 _ _ _ _ ?_ ?_ ?_ ?_))
    all_goals blk_simp [idx_val t]
    all_goals simp [tn]
    all_goals omega
  · refine (rows 384 (k0_pay30 (iblk m c 0 t) (iblk m c 1 t) (iblk m c 2 t) (iblk m c 3 t) (iblk m c 4 t) (iblk m c 5 t) (iblk m c 6 t)) slices_S1024x64_o384_0_S128x64 (by decide) x).trans ((pt0 m c t _ _).trans (sO_at _ _ _ _ (tn t) 0 _ _ _ _ ?_ ?_ ?_ ?_))
    all_goals blk_simp [idx_val t]
    all_goals simp [tn]
    all_goals omega
  · refine (rows 256 (k0_pay30 (iblk m c 0 t) (iblk m c 1 t) (iblk m c 2 t) (iblk m c 3 t) (iblk m c 4 t) (iblk m c 5 t) (iblk m c 6 t)) slices_S1024x64_o256_0_S128x64 (by decide) x).trans ((pt0 m c t _ _).trans (sO_at _ _ _ _ (tn t) 0 _ _ _ _ ?_ ?_ ?_ ?_))
    all_goals blk_simp [idx_val t]
    all_goals simp [tn]
    all_goals omega
  · refine (rows 128 (k0_pay30 (iblk m c 0 t) (iblk m c 1 t) (iblk m c 2 t) (iblk m c 3 t) (iblk m c 4 t) (iblk m c 5 t) (iblk m c 6 t)) slices_S1024x64_o128_0_S128x64 (by decide) x).trans ((pt0 m c t _ _).trans (sO_at _ _ _ _ (tn t) 0 _ _ _ _ ?_ ?_ ?_ ?_))
    all_goals blk_simp [idx_val t]
    all_goals simp [tn]
    all_goals omega
  · refine (rows 0 (k0_pay30 (iblk m c 0 t) (iblk m c 1 t) (iblk m c 2 t) (iblk m c 3 t) (iblk m c 4 t) (iblk m c 5 t) (iblk m c 6 t)) slices_S1024x64_o0_0_S128x64 (by decide) x).trans ((pt0 m c t _ _).trans (sO_at _ _ _ _ (tn t) 0 _ _ _ _ ?_ ?_ ?_ ?_))
    all_goals blk_simp [idx_val t]
    all_goals simp [tn]
    all_goals omega

theorem final (c : Dev nD) : (dats m 0 c).arrAt 7 (cfgs 0).N = (fun z => sO (aQ m c) (aK m c) (aV m c) (aS m c) (z 0) (z 1) : S4096x1024.Idx → EReal) := by
  refine (dats m 0 c).arrAt_eq_of_covers 7 _ (by decide +kernel) fun t hf y => ?_
  blk_simp
  rw [after0_7]
  exact point m c t y

end Cert.Kernel15Ideal.Value
-- ==== Proof.FRef.lean ====
/- The attention's forward pass of the reference, read entry by entry. -/
module

public import proofs.«01_k».proof.Proof.FSpec
public import proofs.«01_k».proof.Proof.RRead
public import proofs.«01_k».proof.Proof.Gen.Reference15Ideal.Read
public import Idealize.ShloMosaic.Lib.Pointwise

@[expose] public section

set_option maxRecDepth 16384

noncomputable section

open Idealize.ShloMosaic Idealize.ShloMosaic.TcCoe Idealize.SL.Sem
open scoped BigOperators

namespace Cert.Reference15Ideal.Read

open Cert.Reference15Ideal Cert.Attn
open Cert.ReferenceIdeal.Read (rQ rK rV rS gi gi_div gi_mod and_if word_block sc sk)

variable (x0 : (⟨S4096x1024, .f32⟩ : BufTy).Contents (Elt Ideal)) (x1 : (⟨S4096x128, .f32⟩ : BufTy).Contents (Elt Ideal))
  (x2 : (⟨S4096x7680, .f32⟩ : BufTy).Contents (Elt Ideal)) (x3 : (⟨S1x128, .f32⟩ : BufTy).Contents (Elt Ideal))

variable (n : Fin 32) (h : Fin 2) (g : Fin 8) (i : Fin 128) (j : Fin 256) (d : Fin 64)

theorem r9 : val_main_v9 x0 (ix5 n i h g d) = bQ (rQ x0) n h (gi g i) d := by
  pointwise [val_main_v9]
  rw [bQ, rQ]
  congr 2
  · exact Fin.ext (by simp only [gi_mod]; omega)
  · exact Fin.ext (by simp only [gi_div]; omega)

theorem r12 : val_main_v12 x1 (ix4 n j h d) = bK (rK x1) n h j d := by
  pointwise [val_main_v12, val_main_v11, val_main_v10, val_main_v4, val_main_v3, val_main_v2, val_main_cst]
  unfold bK rK
  split_ifs
  all_goals first
    | exact absurd rfl (by assumption)
    | exact (dif_neg (by omega)).symm
    | (rw [dif_pos (by omega)]
       congr 2 <;> exact Fin.ext (by dsimp only; omega))
    | rfl
    | (exfalso; omega)
    | (congr 2 <;> exact Fin.ext (by dsimp only; omega))

theorem r15 : val_main_v15 x2 (ix4 n j h d) = bK (rV x2) n h j d := by
  pointwise [val_main_v15, val_main_v14, val_main_v13, val_main_v8, val_main_v7, val_main_v6, val_main_v5, val_main_v0, val_main_cst_0]
  unfold bK rV
  split_ifs
  all_goals first
    | exact absurd rfl (by assumption)
    | exact (dif_neg (by omega)).symm
    | (rw [dif_pos (by omega)]
       congr 2 <;> exact Fin.ext (by dsimp only; omega))
    | rfl
    | (exfalso; omega)
    | (congr 2 <;> exact Fin.ext (by dsimp only; omega))

theorem r49m : val_main_call0_v1 (F := Ideal) (ix5 n h g i j) = if j.val ≤ i.val + 128 ∧ i.val < j.val ∧ 128 ≤ 128 * n.val + j.val then 1#1 else 0#1 := by
  pointwise [val_main_call0_v1, val_main_v48, val_main_v47, val_main_v46, val_main_v45, val_main_v44, val_main_v43, val_main_v42, val_main_c_5, val_main_v41,
    val_main_v40, val_main_v39, val_main_v38, val_main_v37, val_main_v36, val_main_c_4, val_main_v35, val_main_v34, val_main_v33, val_main_c_3, val_main_v32,
    val_main_v31, val_main_c_2, val_main_v30, val_main_v29, val_main_v28, val_main_v27, val_main_v26, val_main_v25, val_main_v24, val_main_c, val_main_v23,
    val_main_v22, val_main_v21, val_main_v20]
  rw [Cert.KernelIdeal.Value.word_win, word_block, and_if]
  simp only [and_assoc]

/-- The scores of a row. -/
abbrev sc : Fin 256 → EReal := hS (bQ (rQ x0) n h) (bK (rK x1) n h) (bB n) (gi g i)

/-- The sink of a row. -/
abbrev sk : EReal := bS (rS x3) h (gi g i)

theorem r49 : val_main_v49 x0 x1 (ix5 n h g i j) = sc x0 x1 n h g i j := by
  pointwise [val_main_v49, val_main_v19, val_main_v18, val_main_cst_1, val_main_call0_v2, val_main_call0_v0, val_main_cst_6, val_main_v17, val_main_v16]
  show Scalar.select (val_main_call0_v1 (F := Ideal) (ix5 n h g i j))
      ((∑ x, val_main_v12 x1 (ix4 n j h x) * val_main_v9 x0 (ix5 n i h g x)) * c8) (Ideal.ofBits .f32 0xFF800000#32) = _
  simp only [r49m, r12, r9, bits_bot]
  rw [sc, hS, bB, gi_mod, Finset.sum_congr rfl fun d _ => mul_comm (bK (rK x1) n h j d) (bQ (rQ x0) n h (gi g i) d)]
  split_ifs with hm
  · exact (add_zero _).symm
  · exact (EReal.add_bot _).symm

theorem r52 : val_main_v52 x3 (ix5 0 h g 0 0) = sk x3 h g i := by
  pointwise [val_main_v52, val_main_v51, val_main_v50]
  rw [sk, bS, rS]
  congr 2
  exact Fin.ext (by simp only [gi_div]; omega)

theorem r53 : val_main_v53 x0 x1 (ix4 n h g i) = rTop (sc x0 x1 n h g i) := by
  pointwise [val_main_v53, val_main_cst_7]
  simp only [r49, bits_bot]
  rfl

theorem r54 : val_main_v54 x0 x1 (ix5 n h g i 0) = rTop (sc x0 x1 n h g i) := by
  pointwise [val_main_v54]
  exact r53 x0 x1 n h g i

theorem r55 : val_main_v55 x3 (ix5 n h g i 0) = sk x3 h g i := by
  pointwise [val_main_v55]
  exact r52 x3 h g i

theorem r56 : val_main_v56 x0 x1 x3 (ix5 n h g i 0) = rM (sc x0 x1 n h g i) (sk x3 h g i) := by
  have hmax : ∀ a b c d : EReal, a = c → b = d → FloatOps.maximumf (F := Ideal) (φ := .f32) a b = max c d := by
    rintro a b c d rfl rfl
    rfl
  rw [val_main_v56_apply]
  exact hmax _ _ _ _ (r54 x0 x1 n h g i) (r55 x3 n h g i)

theorem r59 : val_main_v59 x0 x1 x3 (ix5 n h g i j) = rP (sc x0 x1 n h g i) (sk x3 h g i) j := by
  pointwise [val_main_v59, val_main_v58, val_main_v57]
  rw [r49, r56, rP]

theorem r64 : val_main_v64 x0 x1 x3 (ix5 n h g i 0) = rE (sc x0 x1 n h g i) (sk x3 h g i) := by
  pointwise [val_main_v64, val_main_v63, val_main_v62]
  rw [r52 x3 h g i, r56, rE]

theorem r65 : val_main_v65 x0 x1 x3 (ix5 n h g i 0) = rDen (sc x0 x1 n h g i) (sk x3 h g i) := by
  pointwise [val_main_v65, val_main_v61, val_main_v60, val_main_cst_8]
  simp only [r59, r64]
  rfl

theorem r67 : val_main_v67 x0 x1 x3 (ix5 n h g i j) = rProb (sc x0 x1 n h g i) (sk x3 h g i) j := by
  pointwise [val_main_v67, val_main_v66]
  rw [r59, r65, rProb]

theorem out_71 : val_main_v71 x0 x1 x2 x3 = fun z => sO (rQ x0) (rK x1) (rV x2) (rS x3) (z 0) (z 1) := by
  funext z
  obtain ⟨a, b, rfl⟩ : ∃ a b, z = ix2 a b := ⟨z 0, z 1, eq_ix2 z⟩
  pointwise [val_main_v71, val_main_v70, val_main_v69, val_main_v68]
  refine Eq.trans (Fin.sum_fin_congr fun x => ?_) (sO_at (rQ x0) (rK x1) (rV x2) (rS x3) ⟨a.val / 128, by omega⟩ ⟨b.val / 512, by omega⟩
    (gi ⟨b.val / 64 % 8, by omega⟩ ⟨a.val % 128, by omega⟩) ⟨b.val % 64, by omega⟩ a b rfl rfl rfl rfl)
  rw [r67, r15]
  exact mul_comm _ _

end Cert.Reference15Ideal.Read
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.KPoint
public import proofs.«01_k».proof.Proof.KSink
public import proofs.«01_k».proof.Proof.Finite
public import proofs.«01_k».proof.Proof.Prod2
public import proofs.«01_k».proof.Proof.Prod3
public import proofs.«01_k».proof.Proof.Prod4
public import proofs.«01_k».proof.Proof.Prod5
public import proofs.«01_k».proof.Proof.Prod6
public import proofs.«01_k».proof.Proof.Prod7
public import proofs.«01_k».proof.Proof.Prod8
public import proofs.«01_k».proof.Proof.Prod9
public import proofs.«01_k».proof.Proof.Prod10
public import proofs.«01_k».proof.Proof.Prod11
public import proofs.«01_k».proof.Proof.Prod12
public import proofs.«01_k».proof.Proof.Prod13
public import proofs.«01_k».proof.Proof.Prod14
public import proofs.«01_k».proof.Proof.FKernel
public import proofs.«01_k».proof.Proof.FRef
public import Idealize.ShloMosaic.Adequacy
public import Idealize.ShloMosaic.Init

@[expose] public section

noncomputable section

namespace Cert.Proof

open Idealize.ShloMosaic Idealize.SL.Sem Cert.Attn

theorem frame_reference : Cert.quiescent_ReferenceIdeal := by
  intro m ρ _
  exact (θ_run Cert.ReferenceIdeal.defs _ _).mono (fun r h => ⟨fun c => (h c).2.2.2.2.2.2, sem_eq_zero_of_no_sems (by decide) r.2⟩)
    (Cert.ReferenceIdeal.Value.run (F := Ideal) m ρ)

section value

open Cert.KernelIdeal Cert.KernelIdeal.Value Cert.KernelIdeal.Gen

theorem algebraic [hPre : Cert.Pre_values_finite.Facts] : Cert.algebraic_KernelIdeal_ReferenceIdeal_pre_values_finite := by
  intro m g m' g' hpre hagree
  refine ⟨fun c => (fun z => sDq (aQ m c) (aK m c) (aV m c) (aS m c) (aG m c) (z 0) (z 1) : S4096x1024.Idx → EReal),
    fun c => (fun z => sDk (aQ m c) (aK m c) (aV m c) (aS m c) (aG m c) 0 (z 0) (z 1) : S4096x128.Idx → EReal),
    fun c => (fun z => sDk (aQ m c) (aK m c) (aV m c) (aS m c) (aG m c) 128 (z 0) (z 1) : S4096x128.Idx → EReal),
    fun c => (fun z => sDv (aQ m c) (aK m c) (aS m c) (aG m c) 0 (z 0) (z 1) : S4096x128.Idx → EReal),
    fun c => (fun z => sDv (aQ m c) (aK m c) (aS m c) (aG m c) 128 (z 0) (z 1) : S4096x128.Idx → EReal),
    fun c => (fun z => sSink (aQ m c) (aK m c) (aV m c) (aS m c) (aG m c) (z 1) : S1x128.Idx → EReal), ?_, ?_⟩
  · refine (θ_run _ _ _).mono (fun r h c => ?_) (run_blocks m g)
    obtain ⟨h0, h1, h2, h3, h4, h5, hrest⟩ := h c
    exact ⟨h0.trans (final_8 m c), h1.trans (final_9 m c), h2.trans (final_10 m c), h3.trans (final_11 m c), h4.trans (final_12 m c), h5.trans (final_13 m c), hrest⟩
  · refine (θ_run _ _ _).mono (fun r h c => ?_) (Cert.ReferenceIdeal.Value.run m' g')
    obtain ⟨h0, h1, h2, h3, h4, h5, hrest⟩ := h c
    obtain ⟨e0, e1, e2, e3, e4⟩ := hagree c
    have hv := Cert.Pre_values_finite.finite_v _ _ _ _ _ (hpre c).1
    have hg := Cert.Pre_values_finite.finite_g _ _ _ _ _ (hpre c).2
    rw [← e2] at hv
    rw [← e4] at hg
    have q0 : aQ m c = Cert.ReferenceIdeal.Read.rQ (m' ((c.tc : Thread Cert.ReferenceIdeal.nD Cert.ReferenceIdeal.τ).loc Cert.ReferenceIdeal.main_arg0)) := by
      rw [e0]; rfl
    have q1 : aK m c = Cert.ReferenceIdeal.Read.rK (m' ((c.tc : Thread Cert.ReferenceIdeal.nD Cert.ReferenceIdeal.τ).loc Cert.ReferenceIdeal.main_arg1)) := by
      rw [e1]; rfl
    have q2 : aV m c = Cert.ReferenceIdeal.Read.rV (m' ((c.tc : Thread Cert.ReferenceIdeal.nD Cert.ReferenceIdeal.τ).loc Cert.ReferenceIdeal.main_arg2)) := by
      rw [e2]; rfl
    have q3 : aS m c = Cert.ReferenceIdeal.Read.rS (m' ((c.tc : Thread Cert.ReferenceIdeal.nD Cert.ReferenceIdeal.τ).loc Cert.ReferenceIdeal.main_arg3)) := by
      rw [e3]; rfl
    have q4 : aG m c = Cert.ReferenceIdeal.Read.rQ (m' ((c.tc : Thread Cert.ReferenceIdeal.nD Cert.ReferenceIdeal.τ).loc Cert.ReferenceIdeal.main_arg4)) := by
      rw [e4]; rfl
    simp only [q0, q1, q2, q3, q4]
    exact ⟨h0.trans ((Cert.ReferenceIdeal.Read.val_main_v151_eq _).trans (Cert.ReferenceIdeal.Read.out_151 _ _ _ _ _ hv hg)),
      h1.trans ((Cert.ReferenceIdeal.Read.val_main_v150_eq _).trans (Cert.ReferenceIdeal.Read.out_150 _ _ _ _ _ hv hg)),
      h2.trans ((Cert.ReferenceIdeal.Read.val_main_v149_eq _).trans (Cert.ReferenceIdeal.Read.out_149 _ _ _ _ _ hv hg)),
      h3.trans ((Cert.ReferenceIdeal.Read.val_main_v146_eq _).trans (Cert.ReferenceIdeal.Read.out_146 _ _ _ _)),
      h4.trans ((Cert.ReferenceIdeal.Read.val_main_v145_eq _).trans (Cert.ReferenceIdeal.Read.out_145 _ _ _ _)),
      h5.trans ((Cert.ReferenceIdeal.Read.val_main_v134_eq _).trans (Cert.ReferenceIdeal.Read.out_134 _ _ _ _ _ hv hg)), hrest⟩

end value

theorem frame_reference2 : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run (F := Ideal) m ρ)

theorem algebraic2 : Cert.algebraic_Kernel2Ideal_Reference2Ideal := by
  intro m g m' g' hpre hagree
  refine ⟨fun c => Cert.Kernel2Ideal.Value.G (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), ?_, ?_⟩
  · refine (θ_run _ _ _).mono (fun r h c => ?_) (Cert.Kernel2Ideal.Value.run_blocks m g)
    obtain ⟨h0, hrest⟩ := h c
    exact ⟨h0.trans (Cert.Kernel2Ideal.Value.final m c), hrest⟩
  · refine (θ_run _ _ _).mono (fun r h c => ?_) (Cert.Reference2Ideal.Value.run m' g')
    obtain ⟨h0, hrest⟩ := h c
    obtain ⟨e0, e1⟩ := hagree c
    exact ⟨h0.trans ((Cert.Reference2Ideal.Read.val_main_v2_eq _ _).trans ((Cert.Kernel2Ideal.Value.ref _ _).trans (by rw [e0, e1]))), hrest⟩

theorem frame_reference3 : Cert.quiescent_Reference3Ideal := by
  intro m ρ _
  exact (θ_run Cert.Reference3Ideal.defs _ _).mono (fun r h => ⟨fun c => (h c).2, sem_eq_zero_of_no_sems (by decide) r.2⟩)
    (Cert.Reference3Ideal.Value.run (F := Ideal) m ρ)

theorem algebraic3 : Cert.algebraic_Kernel3Ideal_Reference3Ideal := by
  intro m g m' g' hpre hagree
  refine ⟨fun c => Cert.Kernel3Ideal.Value.G (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg1)), ?_, ?_⟩
  · refine (θ_run _ _ _).mono (fun r h c => ?_) (Cert.Kernel3Ideal.Value.run_blocks m g)
    obtain ⟨h0, hrest⟩ := h c
    exact ⟨h0.trans (Cert.Kernel3Ideal.Value.final m c), hrest⟩
  · refine (θ_run _ _ _).mono (fun r h c => ?_) (Cert.Reference3Ideal.Value.run m' g')
    obtain ⟨h0, hrest⟩ := h c
    obtain ⟨e0, e1, e2⟩ := hagree c
    exact ⟨h0.trans ((Cert.Reference3Ideal.Read.val_main_v6_eq _ _).trans ((Cert.Kernel3Ideal.Value.ref _ _).trans (by rw [e1, e2]))), hrest⟩

theorem frame_reference4 : Cert.quiescent_Reference4Ideal := by
  intro m ρ _
  exact (θ_run Cert.Reference4Ideal.defs _ _).mono (fun r h => ⟨fun c => (h c).2, sem_eq_zero_of_no_sems (by decide) r.2⟩)
    (Cert.Reference4Ideal.Value.run (F := Ideal) m ρ)

theorem algebraic4 : Cert.algebraic_Kernel4Ideal_Reference4Ideal := by
  intro m g m' g' hpre hagree
  refine ⟨fun c => Cert.Kernel4Ideal.Value.G (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg2)), ?_, ?_⟩
  · refine (θ_run _ _ _).mono (fun r h c => ?_) (Cert.Kernel4Ideal.Value.run_blocks m g)
    obtain ⟨h0, hrest⟩ := h c
    exact ⟨h0.trans (Cert.Kernel4Ideal.Value.final m c), hrest⟩
  · refine (θ_run _ _ _).mono (fun r h c => ?_) (Cert.Reference4Ideal.Value.run m' g')
    obtain ⟨h0, hrest⟩ := h c
    obtain ⟨e0, e1, e2⟩ := hagree c
    exact ⟨h0.trans ((Cert.Reference4Ideal.Read.val_main_v6_eq _ _).trans ((Cert.Kernel4Ideal.Value.ref _ _).trans (by rw [e0, e2]))), hrest⟩

theorem frame_reference5 : Cert.quiescent_Reference5Ideal := by
  intro m ρ _
  exact (θ_run Cert.Reference5Ideal.defs _ _).mono (fun r h => ⟨fun c => (h c).2, sem_eq_zero_of_no_sems (by decide) r.2⟩)
    (Cert.Reference5Ideal.Value.run (F := Ideal) m ρ)

theorem algebraic5 : Cert.algebraic_Kernel5Ideal_Reference5Ideal := by
  intro m g m' g' hpre hagree
  refine ⟨fun c => Cert.Kernel5Ideal.Value.G (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · refine (θ_run _ _ _).mono (fun r h c => ?_) (Cert.Kernel5Ideal.Value.run_blocks m g)
    obtain ⟨h0, hrest⟩ := h c
    exact ⟨h0.trans (Cert.Kernel5Ideal.Value.final m c), hrest⟩
  · refine (θ_run _ _ _).mono (fun r h c => ?_) (Cert.Reference5Ideal.Value.run m' g')
    obtain ⟨h0, hrest⟩ := h c
    obtain ⟨e0, e1⟩ := hagree c
    exact ⟨h0.trans ((Cert.Reference5Ideal.Read.val_main_v4_eq _ _).trans ((Cert.Kernel5Ideal.Value.ref _ _).trans (by rw [e0, e1]))), hrest⟩

theorem frame_reference6 : Cert.quiescent_Reference6Ideal := by
  intro m ρ _
  exact (θ_run Cert.Reference6Ideal.defs _ _).mono (fun r h => ⟨fun c => (h c).2, sem_eq_zero_of_no_sems (by decide) r.2⟩)
    (Cert.Reference6Ideal.Value.run (F := Ideal) m ρ)

theorem algebraic6 : Cert.algebraic_Kernel6Ideal_Reference6Ideal := by
  intro m g m' g' hpre hagree
  refine ⟨fun c => Cert.Kernel6Ideal.Value.G (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)), ?_, ?_⟩
  · refine (θ_run _ _ _).mono (fun r h c => ?_) (Cert.Kernel6Ideal.Value.run_blocks m g)
    obtain ⟨h0, hrest⟩ := h c
    exact ⟨h0.trans (Cert.Kernel6Ideal.Value.final m c), hrest⟩
  · refine (θ_run _ _ _).mono (fun r h c => ?_) (Cert.Reference6Ideal.Value.run m' g')
    obtain ⟨h0, hrest⟩ := h c
    obtain ⟨e0, e1, e2, e3⟩ := hagree c
    exact ⟨h0.trans ((Cert.Reference6Ideal.Read.val_main_v9_eq _ _ _).trans ((Cert.Kernel6Ideal.Value.ref _ _ _).trans (by rw [e1, e2, e3]))), hrest⟩

theorem frame_reference7 : Cert.quiescent_Reference7Ideal := by
  intro m ρ _
  exact (θ_run Cert.Reference7Ideal.defs _ _).mono (fun r h => ⟨fun c => (h c).2, sem_eq_zero_of_no_sems (by decide) r.2⟩)
    (Cert.Reference7Ideal.Value.run (F := Ideal) m ρ)

theorem algebraic7 : Cert.algebraic_Kernel7Ideal_Reference7Ideal := by
  intro m g m' g' hpre hagree
  refine ⟨fun c => Cert.Kernel7Ideal.Value.G (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)), ?_, ?_⟩
  · refine (θ_run _ _ _).mono (fun r h c => ?_) (Cert.Kernel7Ideal.Value.run_blocks m g)
    obtain ⟨h0, hrest⟩ := h c
    exact ⟨h0.trans (Cert.Kernel7Ideal.Value.final m c), hrest⟩
  · refine (θ_run _ _ _).mono (fun r h c => ?_) (Cert.Reference7Ideal.Value.run m' g')
    obtain ⟨h0, hrest⟩ := h c
    obtain ⟨e0, e1, e2, e3⟩ := hagree c
    exact ⟨h0.trans ((Cert.Reference7Ideal.Read.val_main_v12_eq _ _ _).trans ((Cert.Kernel7Ideal.Value.ref _ _ _).trans (by rw [e0, e2, e3]))), hrest⟩

theorem frame_reference8 : Cert.quiescent_Reference8Ideal := by
  intro m ρ _
  exact (θ_run Cert.Reference8Ideal.defs _ _).mono (fun r h => ⟨fun c => (h c).2.2, sem_eq_zero_of_no_sems (by decide) r.2⟩)
    (Cert.Reference8Ideal.Value.run (F := Ideal) m ρ)

theorem algebraic8 : Cert.algebraic_Kernel8Ideal_Reference8Ideal := by
  intro m g m' g' hpre hagree
  refine ⟨fun c => Cert.Kernel8Ideal.Value.G (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), fun c => Cert.Kernel8Ideal.Value.H (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)), ?_, ?_⟩
  · refine (θ_run _ _ _).mono (fun r h c => ?_) (Cert.Kernel8Ideal.Value.run_blocks m g)
    obtain ⟨h0, h1, hrest⟩ := h c
    exact ⟨h0.trans (Cert.Kernel8Ideal.Value.final_4 m c), h1.trans (Cert.Kernel8Ideal.Value.final_5 m c), hrest⟩
  · refine (θ_run _ _ _).mono (fun r h c => ?_) (Cert.Reference8Ideal.Value.run m' g')
    obtain ⟨h0, h1, hrest⟩ := h c
    obtain ⟨e0, e1, e2, e3⟩ := hagree c
    exact ⟨h0.trans ((Cert.Reference8Ideal.Read.val_main_v2_eq _ _).trans ((Cert.Kernel8Ideal.Value.ref _ _).trans (by rw [e0, e1]))), h1.trans ((Cert.Reference8Ideal.Read.val_main_v5_eq _ _ _ _).trans ((Cert.Kernel8Ideal.Value.ref_res _ _ _ _).trans (by rw [e0, e1, e2, e3]))), hrest⟩

theorem frame_reference9 : Cert.quiescent_Reference9Ideal := by
  intro m ρ _
  exact (θ_run Cert.Reference9Ideal.defs _ _).mono (fun r h => ⟨fun c => (h c).2, sem_eq_zero_of_no_sems (by decide) r.2⟩)
    (Cert.Reference9Ideal.Value.run (F := Ideal) m ρ)

theorem algebraic9 : Cert.algebraic_Kernel9Ideal_Reference9Ideal := by
  intro m g m' g' hpre hagree
  refine ⟨fun c => Cert.Kernel9Ideal.Value.G (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg1)), ?_, ?_⟩
  · refine (θ_run _ _ _).mono (fun r h c => ?_) (Cert.Kernel9Ideal.Value.run_blocks m g)
    obtain ⟨h0, hrest⟩ := h c
    exact ⟨h0.trans (Cert.Kernel9Ideal.Value.final m c), hrest⟩
  · refine (θ_run _ _ _).mono (fun r h c => ?_) (Cert.Reference9Ideal.Value.run m' g')
    obtain ⟨h0, hrest⟩ := h c
    obtain ⟨e0, e1, e2⟩ := hagree c
    exact ⟨h0.trans ((Cert.Reference9Ideal.Read.val_main_v7_eq _ _).trans ((Cert.Kernel9Ideal.Value.ref _ _).trans (by rw [e1, e2]))), hrest⟩

theorem frame_reference10 : Cert.quiescent_Reference10Ideal := by
  intro m ρ _
  exact (θ_run Cert.Reference10Ideal.defs _ _).mono (fun r h => ⟨fun c => (h c).2, sem_eq_zero_of_no_sems (by decide) r.2⟩)
    (Cert.Reference10Ideal.Value.run (F := Ideal) m ρ)

theorem algebraic10 : Cert.algebraic_Kernel10Ideal_Reference10Ideal := by
  intro m g m' g' hpre hagree
  refine ⟨fun c => Cert.Kernel10Ideal.Value.G (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg2)), ?_, ?_⟩
  · refine (θ_run _ _ _).mono (fun r h c => ?_) (Cert.Kernel10Ideal.Value.run_blocks m g)
    obtain ⟨h0, hrest⟩ := h c
    exact ⟨h0.trans (Cert.Kernel10Ideal.Value.final m c), hrest⟩
  · refine (θ_run _ _ _).mono (fun r h c => ?_) (Cert.Reference10Ideal.Value.run m' g')
    obtain ⟨h0, hrest⟩ := h c
    obtain ⟨e0, e1, e2⟩ := hagree c
    exact ⟨h0.trans ((Cert.Reference10Ideal.Read.val_main_v5_eq _ _).trans ((Cert.Kernel10Ideal.Value.ref _ _).trans (by rw [e0, e2]))), hrest⟩

theorem frame_reference11 : Cert.quiescent_Reference11Ideal := by
  intro m ρ _
  exact (θ_run Cert.Reference11Ideal.defs _ _).mono (fun r h => ⟨fun c => (h c).2, sem_eq_zero_of_no_sems (by decide) r.2⟩)
    (Cert.Reference11Ideal.Value.run (F := Ideal) m ρ)

theorem algebraic11 : Cert.algebraic_Kernel11Ideal_Reference11Ideal := by
  intro m g m' g' hpre hagree
  refine ⟨fun c => Cert.Kernel11Ideal.Value.G (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)), ?_, ?_⟩
  · refine (θ_run _ _ _).mono (fun r h c => ?_) (Cert.Kernel11Ideal.Value.run_blocks m g)
    obtain ⟨h0, hrest⟩ := h c
    exact ⟨h0.trans (Cert.Kernel11Ideal.Value.final m c), hrest⟩
  · refine (θ_run _ _ _).mono (fun r h c => ?_) (Cert.Reference11Ideal.Value.run m' g')
    obtain ⟨h0, hrest⟩ := h c
    obtain ⟨e0, e1⟩ := hagree c
    exact ⟨h0.trans ((Cert.Reference11Ideal.Read.val_main_v2_eq _ _).trans ((Cert.Kernel11Ideal.Value.ref _ _).trans (by rw [e0, e1]))), hrest⟩

theorem frame_reference12 : Cert.quiescent_Reference12Ideal := by
  intro m ρ _
  exact (θ_run Cert.Reference12Ideal.defs _ _).mono (fun r h => ⟨fun c => (h c).2.2, sem_eq_zero_of_no_sems (by decide) r.2⟩)
    (Cert.Reference12Ideal.Value.run (F := Ideal) m ρ)

theorem algebraic12 : Cert.algebraic_Kernel12Ideal_Reference12Ideal := by
  intro m g m' g' hpre hagree
  refine ⟨fun c => Cert.Kernel12Ideal.Value.G (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)), fun c => Cert.Kernel12Ideal.Value.H (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)), ?_, ?_⟩
  · refine (θ_run _ _ _).mono (fun r h c => ?_) (Cert.Kernel12Ideal.Value.run_blocks m g)
    obtain ⟨h0, h1, hrest⟩ := h c
    exact ⟨h0.trans (Cert.Kernel12Ideal.Value.final_4 m c), h1.trans (Cert.Kernel12Ideal.Value.final_5 m c), hrest⟩
  · refine (θ_run _ _ _).mono (fun r h c => ?_) (Cert.Reference12Ideal.Value.run m' g')
    obtain ⟨h0, h1, hrest⟩ := h c
    obtain ⟨e0, e1, e2, e3⟩ := hagree c
    exact ⟨h0.trans ((Cert.Reference12Ideal.Read.val_main_v2_eq _ _).trans ((Cert.Kernel12Ideal.Value.ref _ _).trans (by rw [e0, e1]))), h1.trans ((Cert.Reference12Ideal.Read.val_main_v5_eq _ _ _ _).trans ((Cert.Kernel12Ideal.Value.ref_res _ _ _ _).trans (by rw [e0, e1, e2, e3]))), hrest⟩

theorem frame_reference13 : Cert.quiescent_Reference13Ideal := by
  intro m ρ _
  exact (θ_run Cert.Reference13Ideal.defs _ _).mono (fun r h => ⟨fun c => (h c).2, sem_eq_zero_of_no_sems (by decide) r.2⟩)
    (Cert.Reference13Ideal.Value.run (F := Ideal) m ρ)

theorem algebraic13 : Cert.algebraic_Kernel13Ideal_Reference13Ideal := by
  intro m g m' g' hpre hagree
  refine ⟨fun c => Cert.Kernel13Ideal.Value.G (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg1)), ?_, ?_⟩
  · refine (θ_run _ _ _).mono (fun r h c => ?_) (Cert.Kernel13Ideal.Value.run_blocks m g)
    obtain ⟨h0, hrest⟩ := h c
    exact ⟨h0.trans (Cert.Kernel13Ideal.Value.final m c), hrest⟩
  · refine (θ_run _ _ _).mono (fun r h c => ?_) (Cert.Reference13Ideal.Value.run m' g')
    obtain ⟨h0, hrest⟩ := h c
    obtain ⟨e0, e1, e2⟩ := hagree c
    exact ⟨h0.trans ((Cert.Reference13Ideal.Read.val_main_v6_eq _ _).trans ((Cert.Kernel13Ideal.Value.ref _ _).trans (by rw [e1, e2]))), hrest⟩

theorem frame_reference14 : Cert.quiescent_Reference14Ideal := by
  intro m ρ _
  exact (θ_run Cert.Reference14Ideal.defs _ _).mono (fun r h => ⟨fun c => (h c).2, sem_eq_zero_of_no_sems (by decide) r.2⟩)
    (Cert.Reference14Ideal.Value.run (F := Ideal) m ρ)

theorem algebraic14 : Cert.algebraic_Kernel14Ideal_Reference14Ideal := by
  intro m g m' g' hpre hagree
  refine ⟨fun c => Cert.Kernel14Ideal.Value.G (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg2)), ?_, ?_⟩
  · refine (θ_run _ _ _).mono (fun r h c => ?_) (Cert.Kernel14Ideal.Value.run_blocks m g)
    obtain ⟨h0, hrest⟩ := h c
    exact ⟨h0.trans (Cert.Kernel14Ideal.Value.final m c), hrest⟩
  · refine (θ_run _ _ _).mono (fun r h c => ?_) (Cert.Reference14Ideal.Value.run m' g')
    obtain ⟨h0, hrest⟩ := h c
    obtain ⟨e0, e1, e2⟩ := hagree c
    exact ⟨h0.trans ((Cert.Reference14Ideal.Read.val_main_v5_eq _ _).trans ((Cert.Kernel14Ideal.Value.ref _ _).trans (by rw [e0, e2]))), hrest⟩

theorem frame_reference15 : Cert.quiescent_Reference15Ideal := by
  intro m ρ _
  exact (θ_run Cert.Reference15Ideal.defs _ _).mono (fun r h => ⟨fun c => (h c).2, sem_eq_zero_of_no_sems (by decide) r.2⟩)
    (Cert.Reference15Ideal.Value.run (F := Ideal) m ρ)

theorem algebraic15 : Cert.algebraic_Kernel15Ideal_Reference15Ideal := by
  intro m g m' g' hpre hagree
  refine ⟨fun c => (fun z => Cert.Attn.sO (Cert.Kernel15Ideal.Value.aQ m c) (Cert.Kernel15Ideal.Value.aK m c) (Cert.Kernel15Ideal.Value.aV m c) (Cert.Kernel15Ideal.Value.aS m c) (z 0) (z 1) : Cert.Kernel15Ideal.S4096x1024.Idx → EReal), ?_, ?_⟩
  · refine (θ_run _ _ _).mono (fun r h c => ?_) (Cert.Kernel15Ideal.Value.run_blocks m g)
    obtain ⟨h0, hrest⟩ := h c
    exact ⟨h0.trans (Cert.Kernel15Ideal.Value.final m c), hrest⟩
  · refine (θ_run _ _ _).mono (fun r h c => ?_) (Cert.Reference15Ideal.Value.run m' g')
    obtain ⟨h0, hrest⟩ := h c
    obtain ⟨e0, e1, e2, e3⟩ := hagree c
    exact ⟨h0.trans ((Cert.Reference15Ideal.Read.val_main_v71_eq _ _).trans ((Cert.Reference15Ideal.Read.out_71 _ _ _ _).trans (by rw [e0, e1, e2, e3]; rfl))), hrest⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
     Cert.Kernel3.Gen.facts, Cert.Kernel3Ideal.Gen.facts, Cert.Reference3Ideal.Gen.facts,
     Cert.Kernel4.Gen.facts, Cert.Kernel4Ideal.Gen.facts, Cert.Reference4Ideal.Gen.facts,
     Cert.Kernel5.Gen.facts, Cert.Kernel5Ideal.Gen.facts, Cert.Reference5Ideal.Gen.facts,
     Cert.Kernel6.Gen.facts, Cert.Kernel6Ideal.Gen.facts, Cert.Reference6Ideal.Gen.facts,
     Cert.Kernel7.Gen.facts, Cert.Kernel7Ideal.Gen.facts, Cert.Reference7Ideal.Gen.facts,
     Cert.Kernel8.Gen.facts, Cert.Kernel8Ideal.Gen.facts, Cert.Reference8Ideal.Gen.facts,
     Cert.Kernel9.Gen.facts, Cert.Kernel9Ideal.Gen.facts, Cert.Reference9Ideal.Gen.facts,
     Cert.Kernel10.Gen.facts, Cert.Kernel10Ideal.Gen.facts, Cert.Reference10Ideal.Gen.facts,
     Cert.Kernel11.Gen.facts, Cert.Kernel11Ideal.Gen.facts, Cert.Reference11Ideal.Gen.facts,
     Cert.Kernel12.Gen.facts, Cert.Kernel12Ideal.Gen.facts, Cert.Reference12Ideal.Gen.facts,
     Cert.Kernel13.Gen.facts, Cert.Kernel13Ideal.Gen.facts, Cert.Reference13Ideal.Gen.facts,
     Cert.Kernel14.Gen.facts, Cert.Kernel14Ideal.Gen.facts, Cert.Reference14Ideal.Gen.facts,
     Cert.Kernel15.Gen.facts, Cert.Kernel15Ideal.Gen.facts, Cert.Reference15Ideal.Gen.facts,
    Cert.Pre_values_finite.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    trivial, algebraic (hPre := Cert.Pre_values_finite.facts),
    trivial, algebraic2,
    trivial, algebraic3,
    trivial, algebraic4,
    trivial, algebraic5,
    trivial, algebraic6,
    trivial, algebraic7,
    trivial, algebraic8,
    trivial, algebraic9,
    trivial, algebraic10,
    trivial, algebraic11,
    trivial, algebraic12,
    trivial, algebraic13,
    trivial, algebraic14,
    trivial, algebraic15⟩

end Cert.Proof

end
